-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fit [hPre_fit : Cert.Pre_fit.Facts] (m : (ℓ : Loc Cert.KernelIdeal.nD Cert.KernelIdeal.τ Cert.KernelIdeal.sig) → Buf (Elt Ideal) ℓ) : Prop :=
  ∀ c : Dev Cert.KernelIdeal.nD,
    (Cert.Pre_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fit [hPre_fit : Cert.Pre_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_fit [hKernelIdeal : Cert.KernelIdeal.Facts] [hPre_fit : Cert.Pre_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_fit [hReferenceIdeal : Cert.ReferenceIdeal.Facts] [hPre_fit : Cert.Pre_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "log_step" .f32 0xBF135D8E#32 (((-(Real.log 10000)) * 16⁻¹ : ℝ) : EReal)
  ∧ IdealRules.named_const.Statement Cert.KernelIdeal.κ "gelu_cubic" .bf16 0x3D37#16 ((12003091 / 268435456 : ℝ) : EReal)
  ∧ IdealRules.named_const.Statement Cert.KernelIdeal.κ "gelu_root" .bf16 0x3F4C#16 ((6693141 / 8388608 : ℝ) : EReal)

def algebraic_KernelIdeal_ReferenceIdeal_pre_fit [hKernelIdeal : Cert.KernelIdeal.Facts] [hReferenceIdeal : Cert.ReferenceIdeal.Facts] [hPre_fit : Cert.Pre_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_fit : Cert.Pre_fit.Facts),
    quiescent_Kernel (hKernel := hKernel)
    ∧ quiescent_KernelIdeal (hKernelIdeal := hKernelIdeal)
    ∧ quiescent_KernelIdeal_pre_fit (hKernelIdeal := hKernelIdeal) (hPre_fit := hPre_fit)
    ∧ quiescent_ReferenceIdeal (hReferenceIdeal := hReferenceIdeal)
    ∧ quiescent_ReferenceIdeal_pre_fit (hReferenceIdeal := hReferenceIdeal) (hPre_fit := hPre_fit)
    ∧ preserves_Kernel_KernelIdeal
    ∧ algebraic_KernelIdeal_ReferenceIdeal_pre_fit (hKernelIdeal := hKernelIdeal) (hReferenceIdeal := hReferenceIdeal) (hPre_fit := hPre_fit)
-- ==== Pre_fit.lean ====
abbrev S4x32x128x512 : Shape := ⟨4, ![4, 32, 128, 512]⟩
abbrev S4x32x128x2 : Shape := ⟨4, ![4, 32, 128, 2]⟩
abbrev S4x32x128 : Shape := ⟨3, ![4, 32, 128]⟩
abbrev S512 : Shape := ⟨1, ![512]⟩
abbrev S512x512 : Shape := ⟨2, ![512, 512]⟩
abbrev S512x2048 : Shape := ⟨2, ![512, 2048]⟩
abbrev S2048 : Shape := ⟨1, ![2048]⟩
abbrev S2048x512 : Shape := ⟨2, ![2048, 512]⟩
abbrev S_ : Shape := ⟨0, ![]⟩

class Facts : Prop where
  reducesTo_S4x32x128_S_d0_1_2 : S4x32x128.ReducesTo [0, 1, 2] S_
  h_S_ : 0 < S_.numel
  bcast_S_S4x32x128x2 : S_.BroadcastsInDim S4x32x128x2 (![] : Fin 0 → Fin S4x32x128x2.rank)
  reducesTo_S4x32x128x2_S_d0_1_2_3 : S4x32x128x2.ReducesTo [0, 1, 2, 3] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part2 {F : FTy → Type} [FloatOps F] (main_v31 : IVec S_ 1) (main_v32 : FVec F S512 .f32) (main_v33 : FVec F S512 .f32) : IVec S_ 1 :=
  let main_v34 : IVec S512 1 := cmpf .olt main_v32 main_v33
  let main_c_12 : IVec S_ 1 := constantI S_ 1 1#1
  let main_v35 : IVec S_ 1 := (fun x v => Host.reduce IntOp.andi x v reducesTo_S512_S_d0 h_S_) main_v34 main_c_12
  let main_v36 : IVec S_ 1 := andi main_v31 main_v35
  main_v36

def fn_part1 {F : FTy → Type} [FloatOps F] (main_arg5 : FVec F S512x512 .f32) (main_arg6 : FVec F S512 .f32) (main_arg7 : FVec F S512x512 .f32) (main_arg8 : FVec F S512 .f32) (main_v16 : IVec S_ 1) : IVec S_ 1 :=
  let main_v17 : FVec F S512x512 .f32 := Host.absf main_arg5
  let main_cst_5 : FVec F S_ .f32 := constant S_ .f32 0x7F800000#32
  let main_v18 : FVec F S512x512 .f32 := broadcastInDim S512x512 ![] bcast_S_S512x512 main_cst_5
  let main_v19 : IVec S512x512 1 := cmpf .olt main_v17 main_v18
  let main_c_6 : IVec S_ 1 := constantI S_ 1 1#1
  let main_v20 : IVec S_ 1 := (fun x v => Host.reduce IntOp.andi x v reducesTo_S512x512_S_d0_1 h_S_) main_v19 main_c_6
  let main_v21 : IVec S_ 1 := andi main_v16 main_v20
  let main_v22 : FVec F S512 .f32 := Host.absf main_arg6
  let main_cst_7 : FVec F S_ .f32 := constant S_ .f32 0x7F800000#32
  let main_v23 : FVec F S512 .f32 := broadcastInDim S512 ![] bcast_S_S512 main_cst_7
  let main_v24 : IVec S512 1 := cmpf .olt main_v22 main_v23
  let main_c_8 : IVec S_ 1 := constantI S_ 1 1#1
  let main_v25 : IVec S_ 1 := (fun x v => Host.reduce IntOp.andi x v reducesTo_S512_S_d0 h_S_) main_v24 main_c_8
  let main_v26 : IVec S_ 1 := andi main_v21 main_v25
  let main_v27 : FVec F S512x512 .f32 := Host.absf main_arg7
  let main_cst_9 : FVec F S_ .f32 := constant S_ .f32 0x7F800000#32
  let main_v28 : FVec F S512x512 .f32 := broadcastInDim S512x512 ![] bcast_S_S512x512 main_cst_9
  let main_v29 : IVec S512x512 1 := cmpf .olt main_v27 main_v28
  let main_c_10 : IVec S_ 1 := constantI S_ 1 1#1
  let main_v30 : IVec S_ 1 := (fun x v => Host.reduce IntOp.andi x v reducesTo_S512x512_S_d0_1 h_S_) main_v29 main_c_10
  let main_v31 : IVec S_ 1 := andi main_v26 main_v30
  let main_v32 : FVec F S512 .f32 := Host.absf main_arg8
  let main_cst_11 : FVec F S_ .f32 := constant S_ .f32 0x7F800000#32
  let main_v33 : FVec F S512 .f32 := broadcastInDim S512 ![] bcast_S_S512 main_cst_11
  fn_part2 (F := F) main_v31 main_v32 main_v33

def fn {F : FTy → Type} [FloatOps F] (main_arg0 : FVec F S4x32x128x512 .f32) (main_arg1 : FVec F S4x32x128x2 .f32) (main_arg2 : IVec S4x32x128 1) (main_arg3 : FVec F S512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512 .f32) (main_arg14 : FVec F S512 .f32) (main_arg15 : FVec F S512x2048 .f32) (main_arg16 : FVec F S2048 .f32) (main_arg17 : FVec F S2048x512 .f32) (main_arg18 : FVec F S512 .f32) : IVec S_ 1 :=
  let main_v0 : IVec S4x32x128 1 := noti main_arg2
  let main_c : IVec S_ 1 := constantI S_ 1 1#1
  let main_v1 : IVec S_ 1 := (fun x v => Host.reduce IntOp.andi x v reducesTo_S4x32x128_S_d0_1_2 h_S_) main_v0 main_c
  let main_v2 : FVec F S4x32x128x2 .f32 := Host.absf main_arg1
  let main_cst : FVec F S_ .f32 := constant S_ .f32 0x7F800000#32
  let main_v3 : FVec F S4x32x128x2 .f32 := broadcastInDim S4x32x128x2 ![] bcast_S_S4x32x128x2 main_cst
  let main_v4 : IVec S4x32x128x2 1 := cmpf .olt main_v2 main_v3
  let main_c_0 : IVec S_ 1 := constantI S_ 1 1#1
  let main_v5 : IVec S_ 1 := (fun x v => Host.reduce IntOp.andi x v reducesTo_S4x32x128x2_S_d0_1_2_3 h_S_) main_v4 main_c_0
  let main_v6 : IVec S_ 1 := andi main_v1 main_v5
  let main_v7 : FVec F S512 .f32 := Host.absf main_arg3
  let main_cst_1 : FVec F S_ .f32 := constant S_ .f32 0x7F800000#32
  let main_v8 : FVec F S512 .f32 := broadcastInDim S512 ![] bcast_S_S512 main_cst_1
  let main_v9 : IVec S512 1 := cmpf .olt main_v7 main_v8
  let main_c_2 : IVec S_ 1 := constantI S_ 1 1#1
  let main_v10 : IVec S_ 1 := (fun x v => Host.reduce IntOp.andi x v reducesTo_S512_S_d0 h_S_) main_v9 main_c_2
  let main_v11 : IVec S_ 1 := andi main_v6 main_v10
  let main_v12 : FVec F S512 .f32 := Host.absf main_arg4
  let main_cst_3 : FVec F S_ .f32 := constant S_ .f32 0x7F800000#32
  let main_v13 : FVec F S512 .f32 := broadcastInDim S512 ![] bcast_S_S512 main_cst_3
  let main_v14 : IVec S512 1 := cmpf .olt main_v12 main_v13
  let main_c_4 : IVec S_ 1 := constantI S_ 1 1#1
  let main_v15 : IVec S_ 1 := (fun x v => Host.reduce IntOp.andi x v reducesTo_S512_S_d0 h_S_) main_v14 main_c_4
  let main_v16 : IVec S_ 1 := andi main_v11 main_v15
  fn_part1 (F := F) main_arg5 main_arg6 main_arg7 main_arg8 main_v16
-- ==== Kernel.lean ====
abbrev S4x32x128x512 : Shape := ⟨4, ![4, 32, 128, 512]⟩
abbrev S4x32x128x2 : Shape := ⟨4, ![4, 32, 128, 2]⟩
abbrev S4x32x128 : Shape := ⟨3, ![4, 32, 128]⟩
abbrev S512 : Shape := ⟨1, ![512]⟩
abbrev S512x512 : Shape := ⟨2, ![512, 512]⟩
abbrev S512x2048 : Shape := ⟨2, ![512, 2048]⟩
abbrev S2048 : Shape := ⟨1, ![2048]⟩
abbrev S2048x512 : Shape := ⟨2, ![2048, 512]⟩
abbrev S4x32x128x1 : Shape := ⟨4, ![4, 32, 128, 1]⟩
abbrev S512x1536 : Shape := ⟨2, ![512, 1536]⟩
abbrev S1536 : Shape := ⟨1, ![1536]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x512 : Shape := ⟨2, ![1, 512]⟩
abbrev S1x1536 : Shape := ⟨2, ![1, 1536]⟩
abbrev S1x2048 : Shape := ⟨2, ![1, 2048]⟩
abbrev S1x32x8x512 : Shape := ⟨4, ![1, 32, 8, 512]⟩
abbrev S1x32x8x1 : Shape := ⟨4, ![1, 32, 8, 1]⟩
abbrev S32x8x512 : Shape := ⟨3, ![32, 8, 512]⟩
abbrev S256x512 : Shape := ⟨2, ![256, 512]⟩
abbrev S256x1536 : Shape := ⟨2, ![256, 1536]⟩
abbrev S1x1x64 : Shape := ⟨3, ![1, 1, 64]⟩
abbrev S32x8x1 : Shape := ⟨3, ![32, 8, 1]⟩
abbrev S32x8x64 : Shape := ⟨3, ![32, 8, 64]⟩
abbrev S256x64 : Shape := ⟨2, ![256, 64]⟩
abbrev S256x496 : Shape := ⟨2, ![256, 496]⟩
abbrev S256x16 : Shape := ⟨2, ![256, 16]⟩
abbrev S256x8 : Shape := ⟨2, ![256, 8]⟩
abbrev S256x2048 : Shape := ⟨2, ![256, 2048]⟩

abbrev nBuf : Space → Nat
  | .hbm => 92
  | .vmem => 21
  | .smem => 0
  | _ => 0

abbrev bufTy : (tb : Table) → Fin (tcTables nBuf tb) → BufTy
  | .hbm, ⟨0, _⟩ => ⟨S4x32x128x512, .f32⟩
  | .hbm, ⟨1, _⟩ => ⟨S4x32x128x2, .f32⟩
  | .hbm, ⟨2, _⟩ => ⟨S4x32x128, .i1⟩
  | .hbm, ⟨3, _⟩ => ⟨S512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512, .f32⟩
  | .hbm, ⟨14, _⟩ => ⟨S512, .f32⟩
  | .hbm, ⟨15, _⟩ => ⟨S512x2048, .f32⟩
  | .hbm, ⟨16, _⟩ => ⟨S2048, .f32⟩
  | .hbm, ⟨17, _⟩ => ⟨S2048x512, .f32⟩
  | .hbm, ⟨18, _⟩ => ⟨S512, .f32⟩
  | .hbm, ⟨19, _⟩ => ⟨S4x32x128x1, .f32⟩
  | .hbm, ⟨20, _⟩ => ⟨S4x32x128x1, .f32⟩
  | .hbm, ⟨21, _⟩ => ⟨S512x1536, .f32⟩
  | .hbm, ⟨22, _⟩ => ⟨S1536, .f32⟩
  | .hbm, ⟨23, _⟩ => ⟨S256, .i32⟩
  | .hbm, ⟨24, _⟩ => ⟨S256x1, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S_, .i32⟩
  | .hbm, ⟨34, _⟩ => ⟨S256x1, .i32⟩
  | .hbm, ⟨35, _⟩ => ⟨S256x1, .i1⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S_, .i32⟩
  | .hbm, ⟨40, _⟩ => ⟨S_, .i1⟩
  | .hbm, ⟨41, _⟩ => ⟨S256x1, .i1⟩
  | .hbm, ⟨42, _⟩ => ⟨S256x1, .i1⟩
  | .hbm, ⟨43, _⟩ => ⟨S256x1, .i1⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S1x256, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S1x256, .i32⟩
  | .hbm, ⟨55, _⟩ => ⟨S1x256, .i32⟩
  | .hbm, ⟨56, _⟩ => ⟨S_, .i32⟩
  | .hbm, ⟨57, _⟩ => ⟨S1x256, .i32⟩
  | .hbm, ⟨58, _⟩ => ⟨S1x256, .i1⟩
  | .hbm, ⟨59, _⟩ => ⟨S_, .i32⟩
  | .hbm, ⟨60, _⟩ => ⟨S1x256, .i32⟩
  | .hbm, ⟨61, _⟩ => ⟨S1x256, .i1⟩
  | .hbm, ⟨62, _⟩ => ⟨S_, .i32⟩
  | .hbm, ⟨63, _⟩ => ⟨S_, .i1⟩
  | .hbm, ⟨64, _⟩ => ⟨S1x256, .i1⟩
  | .hbm, ⟨65, _⟩ => ⟨S1x256, .i1⟩
  | .hbm, ⟨66, _⟩ => ⟨S1x256, .i1⟩
  | .hbm, ⟨67, _⟩ => ⟨S1x256, .i32⟩
  | .hbm, ⟨68, _⟩ => ⟨S1x256, .i32⟩
  | .hbm, ⟨69, _⟩ => ⟨S1x256, .i32⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S_, .f32⟩
  | .hbm, ⟨74, _⟩ => ⟨S_, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S256x256, .f32⟩
  | .hbm, ⟨79, _⟩ => ⟨S1x512, .f32⟩
  | .hbm, ⟨80, _⟩ => ⟨S1x512, .f32⟩
  | .hbm, ⟨81, _⟩ => ⟨S512x1536, .bf16⟩
  | .hbm, ⟨82, _⟩ => ⟨S1x1536, .f32⟩
  | .hbm, ⟨83, _⟩ => ⟨S512x512, .bf16⟩
  | .hbm, ⟨84, _⟩ => ⟨S1x512, .f32⟩
  | .hbm, ⟨85, _⟩ => ⟨S1x512, .f32⟩
  | .hbm, ⟨86, _⟩ => ⟨S1x512, .f32⟩
  | .hbm, ⟨87, _⟩ => ⟨S512x2048, .bf16⟩
  | .hbm, ⟨88, _⟩ => ⟨S1x2048, .f32⟩
  | .hbm, ⟨89, _⟩ => ⟨S2048x512, .bf16⟩
  | .hbm, ⟨90, _⟩ => ⟨S1x512, .f32⟩
  | .hbm, ⟨91, _⟩ => ⟨S4x32x128x512, .f32⟩
  | .local _ .vmem, ⟨0, _⟩ => ⟨S1x32x8x512, .f32⟩
  | .local _ .vmem, ⟨1, _⟩ => ⟨S1x32x8x512, .f32⟩
  | .local _ .vmem, ⟨2, _⟩ => ⟨S1x32x8x1, .f32⟩
  | .local _ .vmem, ⟨3, _⟩ => ⟨S1x32x8x1, .f32⟩
  | .local _ .vmem, ⟨4, _⟩ => ⟨S1x32x8x1, .f32⟩
  | .local _ .vmem, ⟨5, _⟩ => ⟨S1x32x8x1, .f32⟩
  | .local _ .vmem, ⟨6, _⟩ => ⟨S256x256, .f32⟩
  | .local _ .vmem, ⟨7, _⟩ => ⟨S1x512, .f32⟩
  | .local _ .vmem, ⟨8, _⟩ => ⟨S1x512, .f32⟩
  | .local _ .vmem, ⟨9, _⟩ => ⟨S512x1536, .bf16⟩
  | .local _ .vmem, ⟨10, _⟩ => ⟨S1x1536, .f32⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x2048, .bf16⟩
  | .local _ .vmem, ⟨16, _⟩ => ⟨S1x2048, .f32⟩
  | .local _ .vmem, ⟨17, _⟩ => ⟨S2048x512, .bf16⟩
  | .local _ .vmem, ⟨18, _⟩ => ⟨S1x512, .f32⟩
  | .local _ .vmem, ⟨19, _⟩ => ⟨S1x32x8x512, .f32⟩
  | .local _ .vmem, ⟨20, _⟩ => ⟨S1x32x8x512, .f32⟩
  | _, _ => ⟨S4x32x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_1 : Ref sig .tc := ⟨.hbm, 33, rfl⟩
abbrev main_call0_v5 : Ref sig .tc := ⟨.hbm, 34, rfl⟩
abbrev main_call0_v6 : Ref sig .tc := ⟨.hbm, 35, rfl⟩
abbrev main_call0_c_2 : Ref sig .tc := ⟨.hbm, 36, rfl⟩
abbrev main_call0_v7 : Ref sig .tc := ⟨.hbm, 37, rfl⟩
abbrev main_call0_v8 : Ref sig .tc := ⟨.hbm, 38, rfl⟩
abbrev main_call0_c_3 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_v6 : Ref sig .tc := ⟨.hbm, 46, rfl⟩
abbrev main_v7 : Ref sig .tc := ⟨.hbm, 47, rfl⟩
abbrev main_c_0 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_1 : Ref sig .tc := ⟨.hbm, 56, rfl⟩
abbrev main_call1_v5 : Ref sig .tc := ⟨.hbm, 57, rfl⟩
abbrev main_call1_v6 : Ref sig .tc := ⟨.hbm, 58, rfl⟩
abbrev main_call1_c_2 : Ref sig .tc := ⟨.hbm, 59, rfl⟩
abbrev main_call1_v7 : Ref sig .tc := ⟨.hbm, 60, rfl⟩
abbrev main_call1_v8 : Ref sig .tc := ⟨.hbm, 61, rfl⟩
abbrev main_call1_c_3 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev main_cst : Ref sig .tc := ⟨.hbm, 73, rfl⟩
abbrev main_cst_1 : Ref sig .tc := ⟨.hbm, 74, rfl⟩
abbrev main_call2_v0 : Ref sig .tc := ⟨.hbm, 75, rfl⟩
abbrev main_call2_v1 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2048x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x32x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "gelu_cubic" => some ((12003091 / 268435456 : ℝ) : EReal)
  | "gelu_root" => some ((6693141 / 8388608 : ℝ) : EReal)
  | "log_step" => some (((-(Real.log 10000)) * 16⁻¹ : ℝ) : EReal)
  | _ => none
-- ==== ReferenceIdeal.lean ====
abbrev S4x32x128x512 : Shape := ⟨4, ![4, 32, 128, 512]⟩
abbrev S4x32x128x2 : Shape := ⟨4, ![4, 32, 128, 2]⟩
abbrev S4x32x128 : Shape := ⟨3, ![4, 32, 128]⟩
abbrev S512 : Shape := ⟨1, ![512]⟩
abbrev S512x512 : Shape := ⟨2, ![512, 512]⟩
abbrev S512x2048 : Shape := ⟨2, ![512, 2048]⟩
abbrev S2048 : Shape := ⟨1, ![2048]⟩
abbrev S2048x512 : Shape := ⟨2, ![2048, 512]⟩
abbrev S4x128x32x512 : Shape := ⟨4, ![4, 128, 32, 512]⟩
abbrev S512x32x512 : Shape := ⟨3, ![512, 32, 512]⟩
abbrev S4x128x32x2 : Shape := ⟨4, ![4, 128, 32, 2]⟩
abbrev S512x32x2 : Shape := ⟨3, ![512, 32, 2]⟩
abbrev S4x128x32 : Shape := ⟨3, ![4, 128, 32]⟩
abbrev S512x32 : Shape := ⟨2, ![512, 32]⟩
abbrev S_ : Shape := ⟨0, ![]⟩
abbrev S512x32x1 : Shape := ⟨3, ![512, 32, 1]⟩
abbrev S1x1x512 : Shape := ⟨3, ![1, 1, 512]⟩
abbrev S512x32x8x64 : Shape := ⟨4, ![512, 32, 8, 64]⟩
abbrev S512x32x8x32 : Shape := ⟨4, ![512, 32, 8, 32]⟩
abbrev S16 : Shape := ⟨1, ![16]⟩
abbrev S1x1x16 : Shape := ⟨3, ![1, 1, 16]⟩
abbrev S512x32x16 : Shape := ⟨3, ![512, 32, 16]⟩
abbrev S512x32x1x16 : Shape := ⟨4, ![512, 32, 1, 16]⟩
abbrev S512x32x8x16 : Shape := ⟨4, ![512, 32, 8, 16]⟩
abbrev S512x8x32x32 : Shape := ⟨4, ![512, 8, 32, 32]⟩
abbrev S512x1x1x32 : Shape := ⟨4, ![512, 1, 1, 32]⟩
abbrev S512x8x32 : Shape := ⟨3, ![512, 8, 32]⟩
abbrev S512x8x32x1 : Shape := ⟨4, ![512, 8, 32, 1]⟩
abbrev S512x8x64x32 : Shape := ⟨4, ![512, 8, 64, 32]⟩
abbrev S512x32x2048 : Shape := ⟨3, ![512, 32, 2048]⟩
abbrev S1x1x2048 : Shape := ⟨3, ![1, 1, 2048]⟩

abbrev nBuf : Space → Nat
  | .hbm => 302
  | .vmem => 0
  | .smem => 0
  | _ => 0

abbrev hbmTy0_0 (i : Nat) : BufTy := match i % 128 with
  | 0 => ⟨S4x32x128x512, .f32⟩
  | 1 => ⟨S4x32x128x2, .f32⟩
  | 2 => ⟨S4x32x128, .i1⟩
  | 3 => ⟨S512, .f32⟩
  | 4 => ⟨S512, .f32⟩
  | 5 => ⟨S512x512, .f32⟩
  | 6 => ⟨S512, .f32⟩
  | 7 => ⟨S512x512, .f32⟩
  | 8 => ⟨S512, .f32⟩
  | 9 => ⟨S512x512, .f32⟩
  | 10 => ⟨S512, .f32⟩
  | 11 => ⟨S512x512, .f32⟩
  | 12 => ⟨S512, .f32⟩
  | 13 => ⟨S512, .f32⟩
  | 14 => ⟨S512, .f32⟩
  | 15 => ⟨S512x2048, .f32⟩
  | 16 => ⟨S2048, .f32⟩
  | 17 => ⟨S2048x512, .f32⟩
  | 18 => ⟨S512, .f32⟩
  | 19 => ⟨S4x128x32x512, .f32⟩
  | 20 => ⟨S512x32x512, .f32⟩
  | 21 => ⟨S4x128x32x2, .f32⟩
  | 22 => ⟨S512x32x2, .f32⟩
  | 23 => ⟨S4x128x32, .i1⟩
  | 24 => ⟨S512x32, .i1⟩
  | 25 => ⟨S_, .f32⟩
  | 26 => ⟨S512x32, .f32⟩
  | 27 => ⟨S512x32x1, .f32⟩
  | 28 => ⟨S_, .f32⟩
  | 29 => ⟨S512x32x1, .f32⟩
  | 30 => ⟨S512x32x1, .f32⟩
  | 31 => ⟨S512x32x512, .f32⟩
  | 32 => ⟨S512x32x512, .f32⟩
  | 33 => ⟨S512x32x512, .f32⟩
  | 34 => ⟨S_, .f32⟩
  | 35 => ⟨S512x32, .f32⟩
  | 36 => ⟨S512x32x1, .f32⟩
  | 37 => ⟨S_, .f32⟩
  | 38 => ⟨S512x32x1, .f32⟩
  | 39 => ⟨S512x32x1, .f32⟩
  | 40 => ⟨S512x32x512, .f32⟩
  | 41 => ⟨S512x32x512, .f32⟩
  | 42 => ⟨S_, .f32⟩
  | 43 => ⟨S512x32x1, .f32⟩
  | 44 => ⟨S512x32x1, .f32⟩
  | 45 => ⟨S512x32x1, .f32⟩
  | 46 => ⟨S512x32x512, .f32⟩
  | 47 => ⟨S512x32x512, .f32⟩
  | 48 => ⟨S1x1x512, .f32⟩
  | 49 => ⟨S512x32x512, .f32⟩
  | 50 => ⟨S512x32x512, .f32⟩
  | 51 => ⟨S1x1x512, .f32⟩
  | 52 => ⟨S512x32x512, .f32⟩
  | 53 => ⟨S512x32x512, .f32⟩
  | 54 => ⟨S512x32x512, .f32⟩
  | 55 => ⟨S1x1x512, .f32⟩
  | 56 => ⟨S512x32x512, .f32⟩
  | 57 => ⟨S512x32x512, .f32⟩
  | 58 => ⟨S512x32x8x64, .f32⟩
  | 59 => ⟨S512x32x512, .f32⟩
  | 60 => ⟨S1x1x512, .f32⟩
  | 61 => ⟨S512x32x512, .f32⟩
  | 62 => ⟨S512x32x512, .f32⟩
  | 63 => ⟨S512x32x8x64, .f32⟩
  | 64 => ⟨S512x32x512, .f32⟩
  | 65 => ⟨S1x1x512, .f32⟩
  | 66 => ⟨S512x32x512, .f32⟩
  | 67 => ⟨S512x32x512, .f32⟩
  | 68 => ⟨S512x32x8x64, .f32⟩
  | 69 => ⟨S512x32x8x32, .f32⟩
  | 70 => ⟨S512x32x1, .f32⟩
  | 71 => ⟨S512x32, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S512x32x1, .f32⟩
  | 83 => ⟨S1x1x16, .f32⟩
  | 84 => ⟨S512x32x16, .f32⟩
  | 85 => ⟨S512x32x16, .f32⟩
  | 86 => ⟨S512x32x16, .f32⟩
  | 87 => ⟨S512x32x1x16, .f32⟩
  | 88 => ⟨S512x32x1x16, .f32⟩
  | 89 => ⟨S512x32x1x16, .f32⟩
  | 90 => ⟨S512x32x8x16, .f32⟩
  | 91 => ⟨S512x32x8x16, .f32⟩
  | 92 => ⟨S512x32x8x16, .f32⟩
  | 93 => ⟨S512x32x8x16, .f32⟩
  | 94 => ⟨S512x32x8x16, .f32⟩
  | 95 => ⟨S512x32x8x16, .f32⟩
  | 96 => ⟨S512x32x8x16, .f32⟩
  | 97 => ⟨S512x32x8x16, .f32⟩
  | 98 => ⟨S512x32x8x16, .f32⟩
  | 99 => ⟨S512x32x8x16, .f32⟩
  | 100 => ⟨S512x32x8x16, .f32⟩
  | 101 => ⟨S512x32x8x16, .f32⟩
  | 102 => ⟨S512x32x8x32, .f32⟩
  | 103 => ⟨S512x32x8x32, .f32⟩
  | 104 => ⟨S512x32x1, .f32⟩
  | 105 => ⟨S512x32, .f32⟩
  | 106 => ⟨S16, .f32⟩
  | 107 => ⟨S_, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S512x32x1, .f32⟩
  | 117 => ⟨S1x1x16, .f32⟩
  | 118 => ⟨S512x32x16, .f32⟩
  | 119 => ⟨S512x32x16, .f32⟩
  | 120 => ⟨S512x32x16, .f32⟩
  | 121 => ⟨S512x32x1x16, .f32⟩
  | 122 => ⟨S512x32x1x16, .f32⟩
  | 123 => ⟨S512x32x1x16, .f32⟩
  | 124 => ⟨S512x32x8x16, .f32⟩
  | 125 => ⟨S512x32x8x16, .f32⟩
  | 126 => ⟨S512x32x8x16, .f32⟩
  | 127 => ⟨S512x32x8x16, .f32⟩
  | _ => ⟨S4x32x128x512, .f32⟩

abbrev hbmTy0_1 (i : Nat) : BufTy := match i % 128 with
  | 0 => ⟨S512x32x8x16, .f32⟩
  | 1 => ⟨S512x32x8x16, .f32⟩
  | 2 => ⟨S512x32x8x16, .f32⟩
  | 3 => ⟨S512x32x8x16, .f32⟩
  | 4 => ⟨S512x32x8x16, .f32⟩
  | 5 => ⟨S512x32x8x16, .f32⟩
  | 6 => ⟨S512x32x8x16, .f32⟩
  | 7 => ⟨S512x32x8x16, .f32⟩
  | 8 => ⟨S512x32x8x32, .f32⟩
  | 9 => ⟨S512x32x8x64, .f32⟩
  | 10 => ⟨S512x32x8x32, .f32⟩
  | 11 => ⟨S512x32x1, .f32⟩
  | 12 => ⟨S512x32, .f32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S512x32x1, .f32⟩
  | 24 => ⟨S1x1x16, .f32⟩
  | 25 => ⟨S512x32x16, .f32⟩
  | 26 => ⟨S512x32x16, .f32⟩
  | 27 => ⟨S512x32x16, .f32⟩
  | 28 => ⟨S512x32x1x16, .f32⟩
  | 29 => ⟨S512x32x1x16, .f32⟩
  | 30 => ⟨S512x32x1x16, .f32⟩
  | 31 => ⟨S512x32x8x16, .f32⟩
  | 32 => ⟨S512x32x8x16, .f32⟩
  | 33 => ⟨S512x32x8x16, .f32⟩
  | 34 => ⟨S512x32x8x16, .f32⟩
  | 35 => ⟨S512x32x8x16, .f32⟩
  | 36 => ⟨S512x32x8x16, .f32⟩
  | 37 => ⟨S512x32x8x16, .f32⟩
  | 38 => ⟨S512x32x8x16, .f32⟩
  | 39 => ⟨S512x32x8x16, .f32⟩
  | 40 => ⟨S512x32x8x16, .f32⟩
  | 41 => ⟨S512x32x8x16, .f32⟩
  | 42 => ⟨S512x32x8x16, .f32⟩
  | 43 => ⟨S512x32x8x32, .f32⟩
  | 44 => ⟨S512x32x8x32, .f32⟩
  | 45 => ⟨S512x32x1, .f32⟩
  | 46 => ⟨S512x32, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S512x32x1, .f32⟩
  | 58 => ⟨S1x1x16, .f32⟩
  | 59 => ⟨S512x32x16, .f32⟩
  | 60 => ⟨S512x32x16, .f32⟩
  | 61 => ⟨S512x32x16, .f32⟩
  | 62 => ⟨S512x32x1x16, .f32⟩
  | 63 => ⟨S512x32x1x16, .f32⟩
  | 64 => ⟨S512x32x1x16, .f32⟩
  | 65 => ⟨S512x32x8x16, .f32⟩
  | 66 => ⟨S512x32x8x16, .f32⟩
  | 67 => ⟨S512x32x8x16, .f32⟩
  | 68 => ⟨S512x32x8x16, .f32⟩
  | 69 => ⟨S512x32x8x16, .f32⟩
  | 70 => ⟨S512x32x8x16, .f32⟩
  | 71 => ⟨S512x32x8x16, .f32⟩
  | 72 => ⟨S512x32x8x16, .f32⟩
  | 73 => ⟨S512x32x8x16, .f32⟩
  | 74 => ⟨S512x32x8x16, .f32⟩
  | 75 => ⟨S512x32x8x16, .f32⟩
  | 76 => ⟨S512x32x8x16, .f32⟩
  | 77 => ⟨S512x32x8x32, .f32⟩
  | 78 => ⟨S512x32x8x64, .f32⟩
  | 79 => ⟨S512x8x32x32, .f32⟩
  | 80 => ⟨S_, .f32⟩
  | 81 => ⟨S512x8x32x32, .f32⟩
  | 82 => ⟨S512x8x32x32, .f32⟩
  | 83 => ⟨S512x1x1x32, .i1⟩
  | 84 => ⟨S_, .f32⟩
  | 85 => ⟨S_, .f32⟩
  | 86 => ⟨S512x1x1x32, .f32⟩
  | 87 => ⟨S512x1x1x32, .f32⟩
  | 88 => ⟨S512x1x1x32, .f32⟩
  | 89 => ⟨S512x1x1x32, .f32⟩
  | 90 => ⟨S512x8x32x32, .f32⟩
  | 91 => ⟨S512x8x32x32, .f32⟩
  | 92 => ⟨S_, .f32⟩
  | 93 => ⟨S512x8x32, .f32⟩
  | 94 => ⟨S_, .f32⟩
  | 95 => ⟨S512x8x32, .f32⟩
  | 96 => ⟨S512x8x32, .f32⟩
  | 97 => ⟨S512x8x32x1, .f32⟩
  | 98 => ⟨S512x8x32x32, .f32⟩
  | 99 => ⟨S512x8x32x32, .f32⟩
  | 100 => ⟨S512x8x32x32, .f32⟩
  | 101 => ⟨S_, .f32⟩
  | 102 => ⟨S512x8x32, .f32⟩
  | 103 => ⟨S512x8x32x1, .f32⟩
  | 104 => ⟨S512x8x32x32, .f32⟩
  | 105 => ⟨S512x8x32x32, .f32⟩
  | 106 => ⟨S512x8x64x32, .f32⟩
  | 107 => ⟨S512x32x8x64, .f32⟩
  | 108 => ⟨S512x32x512, .f32⟩
  | 109 => ⟨S512x32x512, .f32⟩
  | 110 => ⟨S1x1x512, .f32⟩
  | 111 => ⟨S512x32x512, .f32⟩
  | 112 => ⟨S512x32x512, .f32⟩
  | 113 => ⟨S512x32x512, .f32⟩
  | 114 => ⟨S_, .f32⟩
  | 115 => ⟨S512x32, .f32⟩
  | 116 => ⟨S512x32x1, .f32⟩
  | 117 => ⟨S_, .f32⟩
  | 118 => ⟨S512x32x1, .f32⟩
  | 119 => ⟨S512x32x1, .f32⟩
  | 120 => ⟨S512x32x512, .f32⟩
  | 121 => ⟨S512x32x512, .f32⟩
  | 122 => ⟨S512x32x512, .f32⟩
  | 123 => ⟨S_, .f32⟩
  | 124 => ⟨S512x32, .f32⟩
  | 125 => ⟨S512x32x1, .f32⟩
  | 126 => ⟨S_, .f32⟩
  | 127 => ⟨S512x32x1, .f32⟩
  | _ => ⟨S4x32x128x512, .f32⟩

abbrev hbmTy0_2 (i : Nat) : BufTy := match i % 128 with
  | 0 => ⟨S512x32x1, .f32⟩
  | 1 => ⟨S512x32x512, .f32⟩
  | 2 => ⟨S512x32x512, .f32⟩
  | 3 => ⟨S_, .f32⟩
  | 4 => ⟨S512x32x1, .f32⟩
  | 5 => ⟨S512x32x1, .f32⟩
  | 6 => ⟨S512x32x1, .f32⟩
  | 7 => ⟨S512x32x512, .f32⟩
  | 8 => ⟨S512x32x512, .f32⟩
  | 9 => ⟨S1x1x512, .f32⟩
  | 10 => ⟨S512x32x512, .f32⟩
  | 11 => ⟨S512x32x512, .f32⟩
  | 12 => ⟨S1x1x512, .f32⟩
  | 13 => ⟨S512x32x512, .f32⟩
  | 14 => ⟨S512x32x512, .f32⟩
  | 15 => ⟨S512x32x2048, .f32⟩
  | 16 => ⟨S1x1x2048, .f32⟩
  | 17 => ⟨S512x32x2048, .f32⟩
  | 18 => ⟨S512x32x2048, .f32⟩
  | 19 => ⟨S512x32x2048, .f32⟩
  | 20 => ⟨S512x32x2048, .f32⟩
  | 21 => ⟨S_, .f32⟩
  | 22 => ⟨S512x32x2048, .f32⟩
  | 23 => ⟨S512x32x2048, .f32⟩
  | 24 => ⟨S512x32x2048, .f32⟩
  | 25 => ⟨S_, .f32⟩
  | 26 => ⟨S512x32x2048, .f32⟩
  | 27 => ⟨S512x32x2048, .f32⟩
  | 28 => ⟨S512x32x2048, .f32⟩
  | 29 => ⟨S_, .f32⟩
  | 30 => ⟨S512x32x2048, .f32⟩
  | 31 => ⟨S512x32x2048, .f32⟩
  | 32 => ⟨S_, .f32⟩
  | 33 => ⟨S512x32x2048, .f32⟩
  | 34 => ⟨S512x32x2048, .f32⟩
  | 35 => ⟨S512x32x2048, .f32⟩
  | 36 => ⟨S512x32x512, .f32⟩
  | 37 => ⟨S1x1x512, .f32⟩
  | 38 => ⟨S512x32x512, .f32⟩
  | 39 => ⟨S512x32x512, .f32⟩
  | 40 => ⟨S512x32x512, .f32⟩
  | 41 => ⟨S512x32x1, .i1⟩
  | 42 => ⟨S512x32x512, .i1⟩
  | 43 => ⟨S512x32x512, .f32⟩
  | 44 => ⟨S4x128x32x512, .f32⟩
  | 45 => ⟨S4x32x128x512, .f32⟩
  | _ => ⟨S4x32x128x512, .f32⟩

abbrev hbmTy (i : Nat) : BufTy := match i / 128 with
  | 0 => hbmTy0_0 i
  | 1 => hbmTy0_1 i
  | 2 => hbmTy0_2 i
  | _ => ⟨S4x32x128x512, .f32⟩

abbrev bufTy : (tb : Table) → Fin (tcTables nBuf tb) → BufTy
  | .hbm, ⟨i, _⟩ => hbmTy i
  | _, _ => ⟨S4x32x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_3 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_10 : Ref sig .tc := ⟨.hbm, 142, rfl⟩
abbrev main_v112 : Ref sig .tc := ⟨.hbm, 143, rfl⟩
abbrev main_v113 : Ref sig .tc := ⟨.hbm, 144, rfl⟩
abbrev main_cst_11 : Ref sig .tc := ⟨.hbm, 145, rfl⟩
abbrev main_v114 : Ref sig .tc := ⟨.hbm, 146, rfl⟩
abbrev main_v115 : Ref sig .tc := ⟨.hbm, 147, rfl⟩
abbrev main_cst_12 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_cst_13 : Ref sig .tc := ⟨.hbm, 176, rfl⟩
abbrev main_v143 : Ref sig .tc := ⟨.hbm, 177, rfl⟩
abbrev main_v144 : Ref sig .tc := ⟨.hbm, 178, rfl⟩
abbrev main_cst_14 : Ref sig .tc := ⟨.hbm, 179, rfl⟩
abbrev main_v145 : Ref sig .tc := ⟨.hbm, 180, rfl⟩
abbrev main_v146 : Ref sig .tc := ⟨.hbm, 181, rfl⟩
abbrev main_cst_15 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_16 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_cst_17 : Ref sig .tc := ⟨.hbm, 212, rfl⟩
abbrev main_cst_18 : Ref sig .tc := ⟨.hbm, 213, rfl⟩
abbrev main_call0_v0 : Ref sig .tc := ⟨.hbm, 214, rfl⟩
abbrev main_call0_v1 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_19 : Ref sig .tc := ⟨.hbm, 220, rfl⟩
abbrev main_v179 : Ref sig .tc := ⟨.hbm, 221, rfl⟩
abbrev main_cst_20 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_cst_21 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_cst_22 : Ref sig .tc := ⟨.hbm, 242, rfl⟩
abbrev main_v198 : Ref sig .tc := ⟨.hbm, 243, rfl⟩
abbrev main_v199 : Ref sig .tc := ⟨.hbm, 244, rfl⟩
abbrev main_cst_23 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_v204 : Ref sig .tc := ⟨.hbm, 250, rfl⟩
abbrev main_cst_24 : Ref sig .tc := ⟨.hbm, 251, rfl⟩
abbrev main_v205 : Ref sig .tc := ⟨.hbm, 252, rfl⟩
abbrev main_v206 : Ref sig .tc := ⟨.hbm, 253, rfl⟩
abbrev main_cst_25 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_cst_26 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_cst_27 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_cst_28 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_cst_29 : Ref sig .tc := ⟨.hbm, 285, rfl⟩
abbrev main_v234 : Ref sig .tc := ⟨.hbm, 286, rfl⟩
abbrev main_v235 : Ref sig .tc := ⟨.hbm, 287, rfl⟩
abbrev main_cst_30 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_call1_v0 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩

abbrev nD : Nat := 1
abbrev τ : Topo := Topo.v7x

variable {F : FTy → Type} [FloatOps F]
-- ==== Proof.Reals.lean ====
/- Extended reals that are real numbers, and the arithmetic of the extended reals this certificate uses: sums and products
   of real numbers are real, a nonnegative real number distributes over a sum, and a sum of squares is nonnegative. -/
module

public import Idealize.ShloMosaic.PureOps.Ideal

@[expose] public section

noncomputable section

namespace Cert.Layer

open Idealize.ShloMosaic
open scoped BigOperators

/-- The extended real is a real number. -/
def IsReal (x : EReal) : Prop := ∃ r : ℝ, x = (r : EReal)

/-- A real number is real. -/
theorem isReal_coe (r : ℝ) : IsReal (r : EReal) := ⟨r, rfl⟩

/-- What is neither infinity is a real number. -/
theorem isReal_of_ne {x : EReal} (h1 : x ≠ ⊥) (h2 : x ≠ ⊤) : IsReal x :=
  ⟨x.toReal, (EReal.coe_toReal h2 h1).symm⟩

/-- The sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of two real numbers is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Coercion of a finite sum of real numbers. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is real. -/
theorem isReal_sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- A nonnegative real factor distributes over a finite sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.2 hc) (EReal.coe_ne_top c), ih]

/-- A square is nonnegative. -/
theorem sq_nonneg_ereal (x : EReal) : 0 ≤ x * x := by
  induction x using EReal.rec with
  | bot => simp
  | top => simp
  | coe r => rw [← EReal.coe_mul]; exact EReal.coe_nonneg.2 (mul_self_nonneg r)

/-- A square that is not the upper infinity is the square of a real number. -/
theorem isReal_of_sq {x : EReal} (h : x * x ≠ ⊤) : IsReal x := by
  induction x using EReal.rec with
  | bot => simp at h
  | top => simp at h
  | coe r => exact ⟨r, rfl⟩

/-- Division by a nonzero real number is multiplication by its inverse. -/
theorem div_coe_eq {y : ℝ} (h : y ≠ 0) (x : EReal) : Ideal.div x (y : EReal) = x * ((y⁻¹ : ℝ) : EReal) := by
  rw [Ideal.div_coe h, one_div]

/-- The cosine of a real number is real. -/
theorem IsReal.cos {x : EReal} (h : IsReal x) : IsReal (Ideal.cos x) := by
  obtain ⟨r, rfl⟩ := h; exact ⟨Real.cos r, rfl⟩

/-- The sine of a real number is real. -/
theorem IsReal.sin {x : EReal} (h : IsReal x) : IsReal (Ideal.sin x) := by
  obtain ⟨r, rfl⟩ := h; exact ⟨Real.sin r, rfl⟩

end Cert.Layer

end
-- ==== Proof.Norm.lean ====
/- Layer normalisation of a row of 512 extended reals: the quotient by the standard deviation and the product with its
   reciprocal are the same, and with real gain and offset the result is a real number whatever the row. -/
module

public import proofs.«01_k».proof.Proof.Reals

@[expose] public section

noncomputable section

namespace Cert.Layer

open Idealize.ShloMosaic
open scoped BigOperators

/-- The number added to the variance, the binary32 number nearest to 10⁻⁵. -/
def eps : EReal := ((2748779 / 274877906944 : ℝ) : EReal)

/-- The mean of a row. -/
def mean (f : Fin 512 → EReal) : EReal := Ideal.div (∑ k, f k) ((512 : ℝ) : EReal)

/-- A row less its mean. -/
def center (f : Fin 512 → EReal) (k : Fin 512) : EReal := f k - mean f

/-- The variance of a row. -/
def var (f : Fin 512 → EReal) : EReal := Ideal.div (∑ k, center f k * center f k) ((512 : ℝ) : EReal)

/-- Layer normalisation as a quotient by the standard deviation. -/
def norm (g b f : Fin 512 → EReal) (k : Fin 512) : EReal :=
  Ideal.div (center f k) (Ideal.sqrt (var f + eps)) * g k + b k

/-- A sum of squares is nonnegative. -/
theorem sum_sq_nonneg (f : Fin 512 → EReal) : 0 ≤ ∑ k, f k * f k :=
  Finset.sum_nonneg fun k _ => sq_nonneg_ereal (f k)

/-- The variance is nonnegative. -/
theorem var_nonneg (f : Fin 512 → EReal) : 0 ≤ var f := by
  unfold var
  rw [div_coe_eq (by norm_num)]
  exact mul_nonneg (sum_sq_nonneg _) (EReal.coe_nonneg.2 (by norm_num))

/-- Either the variance is the upper infinity, or variance and `eps` sum to a positive real number. -/
theorem var_cases (f : Fin 512 → EReal) : var f = ⊤ ∨ ∃ r : ℝ, 0 < r ∧ var f + eps = (r : EReal) := by
  by_cases h : var f = ⊤
  · exact Or.inl h
  · right
    have h0 := var_nonneg f
    obtain ⟨v, hv⟩ := isReal_of_ne (x := var f) (fun hb => by rw [hb] at h0; simp at h0) h
    rw [hv] at h0 ⊢
    have hv0 : 0 ≤ v := EReal.coe_nonneg.1 h0
    exact ⟨v + 2748779 / 274877906944, by positivity, (EReal.coe_add _ _).symm⟩

/-- The quotient by the root of a number is the product with its reciprocal root, where the number is the upper infinity
    or a positive real number. -/
theorem div_sqrt_eq (a v : EReal) (h : v = ⊤ ∨ ∃ r : ℝ, 0 < r ∧ v = (r : EReal)) :
    Ideal.div a (Ideal.sqrt v) = a * Ideal.rsqrt v := by
  rcases h with rfl | ⟨r, hr, rfl⟩
  · rw [Ideal.sqrt_top, Ideal.rsqrt_top, Ideal.div, if_neg (by simp), EReal.inv_top]
  · have hs : Real.sqrt r ≠ 0 := (Real.sqrt_pos.2 hr).ne'
    rw [Ideal.sqrt_coe, Ideal.rsqrt_coe, if_neg hr.le.not_gt, if_neg hr.le.not_gt, if_neg hr.ne', div_coe_eq hs]

/-- Variance and `eps` sum to the upper infinity or to a positive real number. -/
theorem var_eps_cases (f : Fin 512 → EReal) : var f + eps = ⊤ ∨ ∃ r : ℝ, 0 < r ∧ var f + eps = (r : EReal) := by
  rcases var_cases f with h | h
  · exact Or.inl (by rw [h]; exact EReal.top_add_coe _)
  · exact Or.inr h

/-- **Layer normalisation by the reciprocal root** is the quotient by the standard deviation. -/
theorem norm_eq (g b f : Fin 512 → EReal) (k : Fin 512) :
    center f k * Ideal.rsqrt (var f + eps) * g k + b k = norm g b f k := by
  unfold norm
  rw [div_sqrt_eq _ _ (var_eps_cases f)]

/-- With real gain and offset, layer normalisation of any row is real. -/
theorem norm_isReal (g b f : Fin 512 → EReal) (hg : ∀ k, IsReal (g k)) (hb : ∀ k, IsReal (b k)) (k : Fin 512) :
    IsReal (norm g b f k) := by
  rw [← norm_eq]
  refine IsReal.add (IsReal.mul ?_ (hg k)) (hb k)
  rcases var_cases f with h | ⟨r, hr, h⟩
  · refine ⟨0, ?_⟩
    rw [h, eps, EReal.top_add_coe, Ideal.rsqrt_top, mul_zero, EReal.coe_zero]
  · refine IsReal.mul ?_ ?_
    · refine isReal_of_sq fun ht => ?_
      have hs : ∑ j, center f j * center f j = ⊤ := by
        have hle : center f k * center f k ≤ ∑ j, center f j * center f j :=
          Finset.single_le_sum (f := fun j => center f j * center f j) (fun j _ => sq_nonneg_ereal _) (Finset.mem_univ k)
        rw [ht] at hle
        exact top_le_iff.1 hle
      have hv : var f = ⊤ := by
        unfold var
        rw [hs, div_coe_eq (by norm_num), EReal.top_mul_of_pos (EReal.coe_pos.2 (by norm_num))]
      rw [hv, eps, EReal.top_add_coe] at h
      exact EReal.coe_ne_top r h.symm
    · rw [h, Ideal.rsqrt_coe, if_neg hr.le.not_gt, if_neg hr.ne']
      exact isReal_coe _

end Cert.Layer

end
-- ==== Proof.Attend.lean ====
/- Attention over 32 positions: the softmax that subtracts the largest logit equals the one that does not, at real logits
   and for any extended-real values; and a sum over 256 rows masked by an additive 0 or −∞ is the sum over the 32 rows of
   one position. -/
module

public import proofs.«01_k».proof.Proof.Reals

@[expose] public section

noncomputable section

namespace Cert.Layer

open Idealize.ShloMosaic
open scoped BigOperators

/-- The largest of 32 logits. -/
def peak (lg : Fin 32 → EReal) : EReal := Finset.univ.fold max ⊥ lg

/-- Softmax attention: the values weighted by the exponentials of the logits less the largest, each over their sum. -/
def soft (lg v : Fin 32 → EReal) : EReal :=
  ∑ c, v c * Ideal.div (Ideal.exp (lg c - peak lg)) (∑ k, Ideal.exp (lg k - peak lg))

/-- The largest of real logits is real. -/
theorem peak_isReal (lg : Fin 32 → EReal) (h : ∀ c, IsReal (lg c)) : IsReal (peak lg) := by
  refine isReal_of_ne (fun hb => ?_) (ne_of_lt ?_)
  · obtain ⟨a, ha⟩ := h 0
    have hle : (a : EReal) ≤ peak lg := (Finset.le_fold_max _).2 (Or.inr ⟨0, Finset.mem_univ _, ha.ge⟩)
    rw [hb] at hle
    exact EReal.coe_ne_bot a (le_bot_iff.1 hle)
  · refine (Finset.fold_max_lt _).2 ⟨bot_lt_top, fun c _ => ?_⟩
    obtain ⟨a, ha⟩ := h c
    rw [ha]; exact EReal.coe_lt_top a

/-- **The two softmaxes agree**: at real logits the values weighted by the exponentials, times the reciprocal of the
    exponentials' sum, are softmax attention. -/
theorem soft_eq (lg v : Fin 32 → EReal) (h : ∀ c, IsReal (lg c)) :
    (∑ c, Ideal.exp (lg c) * v c) * Ideal.div ((1 : ℝ) : EReal) (∑ c, Ideal.exp (lg c)) = soft lg v := by
  obtain ⟨m, hm⟩ := peak_isReal lg h
  choose a ha using h
  have hS : 0 < ∑ c, Real.exp (a c) := Finset.sum_pos (fun c _ => Real.exp_pos _) Finset.univ_nonempty
  have hT : 0 < ∑ c, Real.exp (a c - m) := Finset.sum_pos (fun c _ => Real.exp_pos _) Finset.univ_nonempty
  have e1 : ∑ c, Ideal.exp (lg c) = ((∑ c, Real.exp (a c) : ℝ) : EReal) := by
    rw [coe_sum]; exact Finset.sum_congr rfl fun c _ => by rw [ha c, Ideal.exp_coe]
  have e2 : ∑ c, Ideal.exp (lg c - peak lg) = ((∑ c, Real.exp (a c - m) : ℝ) : EReal) := by
    rw [coe_sum]; exact Finset.sum_congr rfl fun c _ => by rw [ha c, hm, ← EReal.coe_sub, Ideal.exp_coe]
  have e3 : ∑ c, Real.exp (a c - m) = (∑ c, Real.exp (a c)) * Real.exp (-m) := by
    rw [Finset.sum_mul]; exact Finset.sum_congr rfl fun c _ => by rw [← Real.exp_add, sub_eq_add_neg]
  unfold soft
  rw [e1, e2, div_coe_eq hS.ne', ← EReal.coe_mul, one_mul, sum_mul_coe _ _ (inv_nonneg.2 hS.le)]
  refine Finset.sum_congr rfl fun c _ => ?_
  rw [ha c, hm, ← EReal.coe_sub, Ideal.exp_coe, Ideal.exp_coe, div_coe_eq hT.ne', ← EReal.coe_mul, mul_right_comm,
    ← EReal.coe_mul, mul_comm]
  congr 2
  rw [e3, sub_eq_add_neg, Real.exp_add]
  field_simp

/-- The row of channel `c` and position `s` among the 256 rows of a block. -/
def row (c : Fin 32) (s : Fin 8) : Fin 256 := ⟨c.val * 8 + s.val, by omega⟩

/-- A sum over the 256 rows that vanishes off one position is the sum over that position's 32 rows. -/
theorem sum_rows (f : Fin 256 → EReal) (s : Fin 8) (h : ∀ r : Fin 256, r.val % 8 ≠ s.val → f r = 0) :
    ∑ r, f r = ∑ c, f (row c s) := by
  rw [← Equiv.sum_comp (finProdFinEquiv (m := 32) (n := 8)) f, Fintype.sum_prod_type]
  refine Finset.sum_congr rfl fun c _ => ?_
  have hv : ∀ y : Fin 8, (finProdFinEquiv (m := 32) (n := 8) (c, y)).val = y.val + 8 * c.val := fun y => rfl
  rw [Finset.sum_eq_single s]
  · exact congrArg f (Fin.ext (by rw [hv]; show _ = c.val * 8 + s.val; omega))
  · intro y _ hy
    refine h _ fun hr => hy (Fin.ext ?_)
    rw [hv] at hr; omega
  · intro hs; exact absurd (Finset.mem_univ s) hs

/-- The additive mask of two rows: 0 at rows of one position, −∞ at rows of two. -/
def gate (r r' : Fin 256) : EReal := if r.val % 8 = r'.val % 8 then 0 else ⊥

/-- **The masked sums over 256 rows**: weighting by the exponentials of the masked logits and dividing by their sum is
    the softmax over the row's own position. -/
theorem soft_rows (lg v : Fin 256 → EReal) (c : Fin 32) (s : Fin 8) (h : ∀ k, IsReal (lg (row k s))) :
    (∑ r, Ideal.exp (lg r + gate (row c s) r) * v r)
        * Ideal.div ((1 : ℝ) : EReal) (∑ r, Ideal.exp (lg r + gate (row c s) r) * ((1 : ℝ) : EReal))
      = soft (fun k => lg (row k s)) (fun k => v (row k s)) := by
  have hoff : ∀ r : Fin 256, r.val % 8 ≠ s.val → Ideal.exp (lg r + gate (row c s) r) = 0 := by
    intro r hr
    have hne : ¬(row c s).val % 8 = r.val % 8 := by show ¬(c.val * 8 + s.val) % 8 = r.val % 8; omega
    rw [gate, if_neg hne, EReal.add_bot, Ideal.exp_bot]
  have hon : ∀ k, Ideal.exp (lg (row k s) + gate (row c s) (row k s)) = Ideal.exp (lg (row k s)) := by
    intro k
    have he : (row c s).val % 8 = (row k s).val % 8 := by
      show (c.val * 8 + s.val) % 8 = (k.val * 8 + s.val) % 8; omega
    rw [gate, if_pos he, add_zero]
  rw [sum_rows _ s (fun r hr => by rw [hoff r hr, zero_mul]), sum_rows _ s (fun r hr => by rw [hoff r hr, zero_mul]),
    ← soft_eq _ _ h]
  simp only [hon, EReal.coe_one, mul_one]

end Cert.Layer

end
-- ==== Proof.Spec.lean ====
/- The transformer layer at one position, over the extended reals: what both programs compute. The 32 channels of a
   position attend to each other; a position has two coordinates per channel, which turn the queries and the keys. -/
module

public import proofs.«01_k».proof.Proof.Norm
public import proofs.«01_k».proof.Proof.Attend

@[expose] public section

noncomputable section

namespace Cert.Layer

open Idealize.ShloMosaic
open scoped BigOperators

/-- A linear map with offset, applied to a row. -/
def lin {n p : Nat} (W : Fin n → Fin p → EReal) (b : Fin p → EReal) (f : Fin n → EReal) (j : Fin p) : EReal :=
  (∑ k, f k * W k j) + b j

/-- A linear map with real coefficients takes a real row to a real row. -/
theorem lin_isReal {n p : Nat} (W : Fin n → Fin p → EReal) (b : Fin p → EReal) (f : Fin n → EReal)
    (hW : ∀ k j, IsReal (W k j)) (hb : ∀ j, IsReal (b j)) (hf : ∀ k, IsReal (f k)) (j : Fin p) : IsReal (lin W b f j) :=
  (isReal_sum _ _ fun k => (hf k).mul (hW k j)).add (hb j)

/-- The frequency of the `j`-th pair of lanes, `10000 ^ (−j/16)`. -/
def freq (j : Nat) : EReal := ((Real.exp (j * ((-(Real.log 10000)) * 16⁻¹)) : ℝ) : EReal)

/-- The frequency as the reciprocal of a power. -/
theorem freq_eq (j : Nat) :
    Ideal.div ((1 : ℝ) : EReal) (Ideal.pow ((10000 : ℝ) : EReal) (Ideal.div ((j : ℝ) : EReal) ((16 : ℝ) : EReal))) = freq j := by
  have h : (0 : ℝ) < 10000 := by norm_num
  rw [div_coe_eq (by norm_num), ← EReal.coe_mul, Ideal.pow_coe_coe]
  have hp : Real.rpow 10000 ((j : ℝ) * 16⁻¹) = Real.exp (Real.log 10000 * ((j : ℝ) * 16⁻¹)) := Real.rpow_def_of_pos h _
  rw [hp, div_coe_eq (Real.exp_pos _).ne', ← EReal.coe_mul, one_mul, ← Real.exp_neg, freq]
  congr 2
  ring

/-- The angle of lane `d` of a head: the first coordinate in its first half, the second in its second, times the
    frequency of the lane within a quarter. -/
def angle (p0 p1 : EReal) (d : Nat) : EReal := (if d / 32 % 2 = 0 then p0 else p1) * freq (d % 16)

/-- The angle of a real position is real. -/
theorem angle_isReal {p0 p1 : EReal} (h0 : IsReal p0) (h1 : IsReal p1) (d : Nat) : IsReal (angle p0 p1 d) := by
  unfold angle
  refine IsReal.mul ?_ (isReal_coe _)
  split
  · exact h0
  · exact h1

/-- The partner of a lane: minus the lane 16 up in the first half of its 32 lanes, the lane 16 down in the second. -/
def partner (t : Fin 512 → EReal) (l : Fin 512) : EReal :=
  if l.val % 32 < 16 then 0 - t ⟨(l.val + 16) % 512, Nat.mod_lt _ (by norm_num)⟩
  else t ⟨(l.val + 496) % 512, Nat.mod_lt _ (by norm_num)⟩

/-- The rotary embedding of a row of 512 lanes, eight heads of 64. -/
def turn (p0 p1 : EReal) (t : Fin 512 → EReal) (l : Fin 512) : EReal :=
  t l * Ideal.cos (angle p0 p1 (l.val % 64)) + partner t l * Ideal.sin (angle p0 p1 (l.val % 64))

/-- The rotary embedding of a real row at a real position is real. -/
theorem turn_isReal {p0 p1 : EReal} (t : Fin 512 → EReal) (h0 : IsReal p0) (h1 : IsReal p1) (ht : ∀ l, IsReal (t l))
    (l : Fin 512) : IsReal (turn p0 p1 t l) := by
  unfold turn
  refine ((ht l).mul (angle_isReal h0 h1 _).cos).add (IsReal.mul ?_ (angle_isReal h0 h1 _).sin)
  unfold partner
  split
  · exact IsReal.sub (isReal_coe 0) (ht _)
  · exact ht _

/-- Lane `d` of head `h`. -/
def lane (h : Fin 8) (d : Fin 64) : Fin 512 := ⟨64 * h.val + d.val, by omega⟩

/-- The head of a lane. -/
def headOf (l : Fin 512) : Fin 8 := ⟨l.val / 64, by omega⟩

/-- The logit of a query row and a key row in one head. -/
def logit (q k : Fin 512 → EReal) (h : Fin 8) : EReal :=
  Ideal.div (∑ d, q (lane h d) * k (lane h d)) ((8 : ℝ) : EReal)

/-- The logit of real rows is real. -/
theorem logit_isReal (q k : Fin 512 → EReal) (h : Fin 8) (hq : ∀ l, IsReal (q l)) (hk : ∀ l, IsReal (k l)) :
    IsReal (logit q k h) := by
  unfold logit
  rw [div_coe_eq (by norm_num)]
  exact (isReal_sum _ _ fun d => (hq _).mul (hk _)).mul (isReal_coe _)

/-- Scaling the query row by an eighth beforehand gives the same logit. -/
theorem logit_scaled (q k : Fin 512 → EReal) (h : Fin 8) :
    ∑ d, (q (lane h d) * ((1 / 8 : ℝ) : EReal)) * k (lane h d) = logit q k h := by
  unfold logit
  rw [div_coe_eq (by norm_num), sum_mul_coe _ _ (by norm_num)]
  exact Finset.sum_congr rfl fun d _ => by rw [mul_right_comm, one_div]

/-- The tangent form of the Gaussian error linear unit, with the binary32 constants of the program. -/
def gelu (h : EReal) : EReal :=
  h * (((1 / 2 : ℝ) : EReal) * (((1 : ℝ) : EReal)
    + Ideal.tanh (((6693141 / 8388608 : ℝ) : EReal) * (h + ((12003091 / 268435456 : ℝ) : EReal) * (h * h * h)))))

/-- The layer's coefficients. -/
structure Par where
  /-- gain of the first normalisation -/
  g1 : Fin 512 → EReal
  /-- offset of the first normalisation -/
  be1 : Fin 512 → EReal
  /-- query map -/
  Wq : Fin 512 → Fin 512 → EReal
  /-- query offset -/
  bq : Fin 512 → EReal
  /-- key map -/
  Wk : Fin 512 → Fin 512 → EReal
  /-- key offset -/
  bk : Fin 512 → EReal
  /-- value map -/
  Wv : Fin 512 → Fin 512 → EReal
  /-- value offset -/
  bv : Fin 512 → EReal
  /-- output map -/
  Wo : Fin 512 → Fin 512 → EReal
  /-- output offset -/
  bo : Fin 512 → EReal
  /-- gain of the second normalisation -/
  g2 : Fin 512 → EReal
  /-- offset of the second normalisation -/
  be2 : Fin 512 → EReal
  /-- first map of the feed-forward part -/
  W1 : Fin 512 → Fin 2048 → EReal
  /-- its offset -/
  bf1 : Fin 2048 → EReal
  /-- second map of the feed-forward part -/
  W2 : Fin 2048 → Fin 512 → EReal
  /-- its offset -/
  bf2 : Fin 512 → EReal

/-- The coefficients that enter the logits are real numbers. -/
structure Par.Fits (P : Par) : Prop where
  /-- first gain -/
  g1 : ∀ k, IsReal (P.g1 k)
  /-- first offset -/
  be1 : ∀ k, IsReal (P.be1 k)
  /-- query map -/
  Wq : ∀ k j, IsReal (P.Wq k j)
  /-- query offset -/
  bq : ∀ j, IsReal (P.bq j)
  /-- key map -/
  Wk : ∀ k j, IsReal (P.Wk k j)
  /-- key offset -/
  bk : ∀ j, IsReal (P.bk j)

/-- The query row of a row `x` at coordinates `p0`, `p1`. -/
def query (P : Par) (p0 p1 : EReal) (x : Fin 512 → EReal) : Fin 512 → EReal :=
  turn p0 p1 (lin P.Wq P.bq (norm P.g1 P.be1 x))

/-- The key row. -/
def key (P : Par) (p0 p1 : EReal) (x : Fin 512 → EReal) : Fin 512 → EReal :=
  turn p0 p1 (lin P.Wk P.bk (norm P.g1 P.be1 x))

/-- The value row. -/
def value (P : Par) (x : Fin 512 → EReal) : Fin 512 → EReal := lin P.Wv P.bv (norm P.g1 P.be1 x)

/-- With real coefficients the logits of any two rows at real coordinates are real. -/
theorem logit_query_key_isReal (P : Par) (hP : P.Fits) {p0 p1 r0 r1 : EReal} (h0 : IsReal p0) (h1 : IsReal p1)
    (k0 : IsReal r0) (k1 : IsReal r1) (x y : Fin 512 → EReal) (h : Fin 8) :
    IsReal (logit (query P p0 p1 x) (key P r0 r1 y) h) := by
  have hx := norm_isReal P.g1 P.be1 x hP.g1 hP.be1
  have hy := norm_isReal P.g1 P.be1 y hP.g1 hP.be1
  exact logit_isReal _ _ h
    (turn_isReal _ h0 h1 (lin_isReal _ _ _ hP.Wq hP.bq hx))
    (turn_isReal _ k0 k1 (lin_isReal _ _ _ hP.Wk hP.bk hy))

/-- The attention of channel `c` at lane `l`. -/
def attend (P : Par) (p0 p1 : Fin 32 → EReal) (x : Fin 32 → Fin 512 → EReal) (c : Fin 32) (l : Fin 512) : EReal :=
  soft (fun k => logit (query P (p0 c) (p1 c) (x c)) (key P (p0 k) (p1 k) (x k)) (headOf l)) (fun k => value P (x k) l)

/-- A row after attention: itself plus the output map of an attention row. -/
def mid (P : Par) (x a : Fin 512 → EReal) (l : Fin 512) : EReal := x l + lin P.Wo P.bo a l

/-- A row after the feed-forward part. -/
def feed (P : Par) (y : Fin 512 → EReal) (l : Fin 512) : EReal :=
  y l + lin P.W2 P.bf2 (fun j => gelu (lin P.W1 P.bf1 (norm P.g2 P.be2 y) j)) l

/-- **The layer** at one position. -/
def layer (P : Par) (p0 p1 : Fin 32 → EReal) (x : Fin 32 → Fin 512 → EReal) (c : Fin 32) (l : Fin 512) : EReal :=
  feed P (mid P (x c) (attend P p0 p1 x c)) l

end Cert.Layer

end
-- ==== Proof.Consts.lean ====
/- The numbers the programs' words stand for, over the extended reals. -/
module

public import Idealize.ShloMosaic.Lib.Pointwise
public import proofs.«01_k».proof.Proof.Spec

@[expose] public section

noncomputable section

namespace Cert.Layer

open Idealize.ShloMosaic

/-- The row length. -/
theorem word_512 : Ideal.ofBits .f32 0x44000000#32 = ((512 : ℝ) : EReal) := by
  simp [Ideal.ofBits, Ideal.ieee, -EReal.coe_mul]; norm_num

/-- The offset under the square root. -/
theorem word_eps : Ideal.ofBits .f32 0x3727C5AC#32 = eps := by
  simp [Ideal.ofBits, Ideal.ieee, eps, -EReal.coe_mul]; norm_num

/-- One, in binary32. -/
theorem word_one : Ideal.ofBits .f32 0x3F800000#32 = ((1 : ℝ) : EReal) := by
  simp [Ideal.ofBits, Ideal.ieee, -EReal.coe_mul]; norm_num

/-- One, in bfloat16. -/
theorem word_one_b : Ideal.ofBits .bf16 0x3F80#16 = ((1 : ℝ) : EReal) := by
  simp [Ideal.ofBits, Ideal.ieee, -EReal.coe_mul]; norm_num

/-- A half, in binary32. -/
theorem word_half : Ideal.ofBits .f32 0x3F000000#32 = ((1 / 2 : ℝ) : EReal) := by
  simp [Ideal.ofBits, Ideal.ieee, -EReal.coe_mul]; norm_num

/-- A half, in bfloat16. -/
theorem word_half_b : Ideal.ofBits .bf16 0x3F00#16 = ((1 / 2 : ℝ) : EReal) := by
  simp [Ideal.ofBits, Ideal.ieee, -EReal.coe_mul]; norm_num

/-- An eighth. -/
theorem word_eighth : Ideal.ofBits .f32 0x3E000000#32 = ((1 / 8 : ℝ) : EReal) := by
  simp [Ideal.ofBits, Ideal.ieee, -EReal.coe_mul]; norm_num

/-- Eight. -/
theorem word_8 : Ideal.ofBits .f32 0x41000000#32 = ((8 : ℝ) : EReal) := by
  simp [Ideal.ofBits, Ideal.ieee, -EReal.coe_mul]; norm_num

/-- Sixteen. -/
theorem word_16 : Ideal.ofBits .f32 0x41800000#32 = ((16 : ℝ) : EReal) := by
  simp [Ideal.ofBits, Ideal.ieee, -EReal.coe_mul]; norm_num

/-- Ten thousand. -/
theorem word_10000 : Ideal.ofBits .f32 0x461C4000#32 = ((10000 : ℝ) : EReal) := by
  simp [Ideal.ofBits, Ideal.ieee, -EReal.coe_mul]; norm_num

/-- The factor inside the hyperbolic tangent. -/
theorem word_root : Ideal.ofBits .f32 0x3F4C422A#32 = ((6693141 / 8388608 : ℝ) : EReal) := by
  simp [Ideal.ofBits, Ideal.ieee, -EReal.coe_mul]; norm_num

/-- The factor of the cube. -/
theorem word_cubic : Ideal.ofBits .f32 0x3D372713#32 = ((12003091 / 268435456 : ℝ) : EReal) := by
  simp [Ideal.ofBits, Ideal.ieee, -EReal.coe_mul]; norm_num

/-- Minus infinity. -/
theorem word_bot : Ideal.ofBits .f32 0xFF800000#32 = ⊥ := by simp [Ideal.ofBits, Ideal.ieee]

/-- Plus infinity. -/
theorem word_top : Ideal.ofBits .f32 0x7F800000#32 = ⊤ := by simp [Ideal.ofBits, Ideal.ieee]

end Cert.Layer

end
-- ==== Proof.Inputs.lean ====
/- What the precondition says of the argument arrays: no channel is masked, and the coordinates, the first normalisation's
   coefficients and the query and key maps are real. -/
module

public import proofs.«01_k».proof.Proof.Consts
public import proofs.«01_k».proof.Proof.Gen.Pre_fit
public import Idealize.ShloMosaic.Lib.ReduceAll

@[expose] public section

noncomputable section

namespace Cert.Layer

open Idealize.ShloMosaic Cert.Pre_fit Cert.Pre_fit.Gen

/-- An extended real whose absolute value compares below infinity is real. -/
theorem isReal_of_cmp {x : EReal} (h : FloatOps.cmpf (F := Ideal) (φ := .f32) .olt (FloatOps.absf (F := Ideal) (φ := .f32) x) (Ideal.ofBits .f32 0x7F800000#32) = 1#1) :
    IsReal x := by
  rw [Ideal.cmpf_def, Ideal.absf_def, word_top] at h
  have hlt : max x (-x) < ⊤ := by
    by_contra hn
    simp [Ideal.cmp, hn] at h
  rw [max_lt_iff] at hlt
  refine isReal_of_ne (fun e => ?_) hlt.1.ne
  rw [e] at hlt
  exact absurd hlt.2 (by simp)

/-- Every entry of an array is real where the conjunction of the comparisons of their absolute values with infinity is one. -/
theorem isReal_of_all {s : Shape} {axes : List (Fin s.rank)} (x : FVec Ideal s .f32) (hb : S_.BroadcastsInDim s ![])
    (hr : s.ReducesTo axes S_) (j : S_.Idx)
    (e : Host.reduce IntOp.andi (cmpf .olt (Host.absf x) (broadcastInDim s ![] hb (constant S_ .f32 0x7F800000#32))) (constantI S_ 1 1#1) hr h_S_ j = 1#1)
    (i : s.Idx) : IsReal (x i) := by
  have h := Host.reduce_andi_all _ _ hr h_S_ j e i
  exact isReal_of_cmp h

/-- The precondition's consequences. -/
theorem of_fit (x0 : FVec Ideal S4x32x128x512 .f32) (x1 : FVec Ideal S4x32x128x2 .f32) (x2 : IVec S4x32x128 1)
    (x3 x4 : FVec Ideal S512 .f32) (x5 : FVec Ideal S512x512 .f32) (x6 : FVec Ideal S512 .f32)
    (x7 : FVec Ideal S512x512 .f32) (x8 : FVec Ideal S512 .f32) (x9 : FVec Ideal S512x512 .f32) (x10 : FVec Ideal S512 .f32)
    (x11 : FVec Ideal S512x512 .f32) (x12 x13 x14 : FVec Ideal S512 .f32) (x15 : FVec Ideal S512x2048 .f32)
    (x16 : FVec Ideal S2048 .f32) (x17 : FVec Ideal S2048x512 .f32) (x18 : FVec Ideal S512 .f32)
    (h : fn (F := Ideal) x0 x1 x2 x3 x4 x5 x6 x7 x8 x9 x10 x11 x12 x13 x14 x15 x16 x17 x18 = fun _ => 1#1) :
    (∀ i, x2 i = 0#1) ∧ (∀ i, IsReal (x1 i)) ∧ (∀ i, IsReal (x3 i)) ∧ (∀ i, IsReal (x4 i)) ∧ (∀ i, IsReal (x5 i))
      ∧ (∀ i, IsReal (x6 i)) ∧ (∀ i, IsReal (x7 i)) ∧ ∀ i, IsReal (x8 i) := by
  have e := congrFun h (fun a => a.elim0)
  unfold fn fn_part1 fn_part2 at e
  dsimp only at e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e2, e1⟩ := IntOp.andi_eq_one.1 e
  refine ⟨fun i => ?_, isReal_of_all x1 _ _ _ e1, isReal_of_all x3 _ _ _ e3, isReal_of_all x4 _ _ _ e4, isReal_of_all x5 _ _ _ e5,
    isReal_of_all x6 _ _ _ e6, isReal_of_all x7 _ _ _ e7, isReal_of_all x8 _ _ _ e8⟩
  have hi := Host.reduce_andi_all _ _ _ _ _ e2 i
  have hn : ~~~(x2 i) = 1#1 := hi
  have hw : ∀ w : BitVec 1, ~~~w = 1#1 → w = 0#1 := by decide
  exact hw _ hn

end Cert.Layer

end
-- ==== Proof.KernelRows.lean ====
/- What one block of the kernel computes before attention, row by row: the input row, the joint linear map of the
   normalised row, and its query, key and value parts, the first two turned by the rotary embedding. -/
module

public import proofs.«01_k».proof.Proof.Consts
public import proofs.«01_k».proof.Proof.Gen.KernelIdeal.Skeleton

@[expose] public section

noncomputable section

namespace Cert.Layer

open Idealize.ShloMosaic Cert.KernelIdeal Cert.KernelIdeal.Gen
open scoped BigOperators

/-- The channel of a row of a block. -/
def chan (r : Fin 256) : Fin 32 := ⟨r.val / 8, by omega⟩

/-- The position of a row of a block. -/
def spot (r : Fin 256) : Fin 8 := ⟨r.val % 8, by omega⟩

/-- A row of a block is the row of its channel and position. -/
theorem row_chan_spot (r : Fin 256) : row (chan r) (spot r) = r :=
  Fin.ext (by show r.val / 8 * 8 + r.val % 8 = r.val; omega)

/-- Row `r` of the block's 256 rows is the block's row at channel `r / 8` and position `r % 8`. -/
theorem pay1_apply (v0 : Vec Ideal S1x32x8x512 .f32) (r : Fin 256) (l : Fin 512) :
    k0_pay1 (F := Ideal) v0 (ix2 r l) = v0 (ix4 0 (chan r) (spot r) l) := by
  pointwise [k0_pay1, chan, spot]

/-- The joint map of a row: the linear map of the normalised row. -/
theorem pay2_apply (v0 : Vec Ideal S1x32x8x512 .f32) (v19 v23 : Vec Ideal S1x512 .f32) (v28 : Vec Ideal S512x1536 .bf16)
    (v31 : Vec Ideal S1x1536 .f32) (r : Fin 256) (j : Fin 1536) :
    k0_pay2 (F := Ideal) v0 v19 v23 v28 v31 (ix2 r j)
      = lin (fun k j => v28 (ix2 k j)) (fun j => v31 (ix2 0 j))
          (norm (fun k => v19 (ix2 0 k)) (fun k => v23 (ix2 0 k)) (fun k => k0_pay1 (F := Ideal) v0 (ix2 r k))) j := by
  unfold k0_pay2
  generalize k0_pay1 (F := Ideal) v0 = X
  pointwise []
  simp only [lin, ← norm_eq, center, mean, var, word_512, word_eps]

/-- The query part: the first 512 columns. -/
theorem pay3_apply (v0 : Vec Ideal S1x32x8x512 .f32) (v19 v23 : Vec Ideal S1x512 .f32) (v28 : Vec Ideal S512x1536 .bf16)
    (v31 : Vec Ideal S1x1536 .f32) (r : Fin 256) (j : Fin 512) :
    k0_pay3 (F := Ideal) v0 v19 v23 v28 v31 (ix2 r j) = k0_pay2 (F := Ideal) v0 v19 v23 v28 v31 (ix2 r ⟨j.val, by omega⟩) := by
  unfold k0_pay3
  generalize k0_pay2 (F := Ideal) v0 v19 v23 v28 v31 = X
  pointwise []

/-- The key part: the second 512 columns. -/
theorem pay4_apply (v0 : Vec Ideal S1x32x8x512 .f32) (v19 v23 : Vec Ideal S1x512 .f32) (v28 : Vec Ideal S512x1536 .bf16)
    (v31 : Vec Ideal S1x1536 .f32) (r : Fin 256) (j : Fin 512) :
    k0_pay4 (F := Ideal) v0 v19 v23 v28 v31 (ix2 r j)
      = k0_pay2 (F := Ideal) v0 v19 v23 v28 v31 (ix2 r ⟨512 + j.val, by omega⟩) := by
  unfold k0_pay4
  generalize k0_pay2 (F := Ideal) v0 v19 v23 v28 v31 = X
  pointwise []

/-- The value part: the third 512 columns. -/
theorem pay5_apply (v0 : Vec Ideal S1x32x8x512 .f32) (v19 v23 : Vec Ideal S1x512 .f32) (v28 : Vec Ideal S512x1536 .bf16)
    (v31 : Vec Ideal S1x1536 .f32) (r : Fin 256) (j : Fin 512) :
    k0_pay5 (F := Ideal) v0 v19 v23 v28 v31 (ix2 r j)
      = k0_pay2 (F := Ideal) v0 v19 v23 v28 v31 (ix2 r ⟨1024 + j.val, by omega⟩) := by
  unfold k0_pay5
  generalize k0_pay2 (F := Ideal) v0 v19 v23 v28 v31 = X
  pointwise []

/-- The lane numbers of a head. -/
abbrev lanes : IVec S1x1x64 32 := iota .tc S1x1x64 32 [2] iota_S1x1x64_d2_w32

/-- The remainder by 16 of a lane number is read as that real number. -/
theorem pay6_apply (d : Fin 64) :
    k0_pay6 (F := Ideal) lanes 16#32 (ix3 0 0 d) = (((d.val % 16 : ℕ) : ℝ) : EReal) := by
  pointwise [k0_pay6, lanes]
  have hw : ∀ d : Fin 64, (Scalar.select
        (IntOp.andi
          (IntOp.xori
            (IntOp.cmpi .slt (IntOp.remsi .vector (BitVec.ofNat 32 d.val)
                (Scalar.select (Scalar.cmpi .eq 16#32 0#32) 1#32 16#32)) 0#32)
            (Scalar.cmpi .slt (Scalar.select (Scalar.cmpi .eq 16#32 0#32) 1#32 16#32) 0#32))
          (IntOp.cmpi .ne (IntOp.remsi .vector (BitVec.ofNat 32 d.val)
              (Scalar.select (Scalar.cmpi .eq 16#32 0#32) 1#32 16#32)) 0#32))
        (IntOp.addi (IntOp.remsi .vector (BitVec.ofNat 32 d.val)
            (Scalar.select (Scalar.cmpi .eq 16#32 0#32) 1#32 16#32))
          (Scalar.select (Scalar.cmpi .eq 16#32 0#32) 1#32 16#32))
        (IntOp.remsi .vector (BitVec.ofNat 32 d.val)
          (Scalar.select (Scalar.cmpi .eq 16#32 0#32) 1#32 16#32))).toInt = ((d.val % 16 : ℕ) : ℤ) := by
    decide +kernel
  exact (congrArg (fun z : ℤ => ((z : ℝ) : EReal)) (hw d)).trans (by rw [Int.cast_natCast])

/-- The half of the head's lane: its number over 32, modulo 2. -/
theorem pay7_apply (d : Fin 64) : k0_pay7 lanes (ix3 0 0 d) = BitVec.ofNat 32 (d.val / 32 % 2) := by
  pointwise [k0_pay7, lanes]
  revert d
  decide +kernel

/-- The frequency step. -/
theorem named_log_step :
    Named.named (F := Ideal) κ "log_step" (φ := .f32) 0xBF135D8E#32 = (((-(Real.log 10000)) * 16⁻¹ : ℝ) : EReal) :=
  IdealRules.named_const.ideal_named_scalar _ _ _ _ rfl

/-- The angle of a lane of a row. -/
theorem pay8_apply (p0 p1 : Vec Ideal S1x32x8x1 .f32) (c : Fin 32) (s : Fin 8) (d : Fin 64) :
    k0_pay8 (k0_pay6 (F := Ideal) lanes 16#32) (Scalar.select (Scalar.cmpi .eq 2#32 0#32) 1#32 2#32) (k0_pay7 lanes) p0 p1
      (ix3 c s d) = angle (p0 (ix4 0 c s 0)) (p1 (ix4 0 c s 0)) d.val := by
  pointwise [k0_pay8]
  rw [pay6_apply, pay7_apply, named_log_step, ← EReal.coe_mul, Ideal.exp_coe]
  have hw : ∀ d : Fin 64, IntOp.cmpi .eq (Scalar.select
        (IntOp.andi
          (IntOp.xori (IntOp.cmpi .slt (BitVec.ofNat 32 (d.val / 32 % 2)) 0#32)
            (Scalar.cmpi .slt (Scalar.select (Scalar.cmpi .eq 2#32 0#32) 1#32 2#32) 0#32))
          (IntOp.cmpi .ne (BitVec.ofNat 32 (d.val / 32 % 2)) 0#32))
        (IntOp.addi (BitVec.ofNat 32 (d.val / 32 % 2)) (Scalar.select (Scalar.cmpi .eq 2#32 0#32) 1#32 2#32))
        (BitVec.ofNat 32 (d.val / 32 % 2))) 0#32 = if d.val / 32 % 2 = 0 then 1#1 else 0#1 := by
    decide +kernel
  rw [hw d, angle, freq]
  by_cases h : d.val / 32 % 2 = 0 <;> simp [h, Scalar.select]

/-- A lane of 512 is a lane of its head. -/
def inner (l : Fin 512) : Fin 64 := ⟨l.val % 64, by omega⟩

/-- The cosines of the angles of a row. -/
theorem pay9_apply (v55 : FVec Ideal S1x1x64 .f32) (v81 : BitVec 32) (v83 : IVec S1x1x64 32)
    (p0 p1 : Vec Ideal S1x32x8x1 .f32) (r : Fin 256) (l : Fin 512) :
    k0_pay9 v55 v81 v83 p0 p1 (ix2 r l) = Ideal.cos (k0_pay8 v55 v81 v83 p0 p1 (ix3 (chan r) (spot r) (inner l))) := by
  unfold k0_pay9
  generalize k0_pay8 v55 v81 v83 p0 p1 = X
  pointwise [chan, spot, inner]
  split_ifs <;> congr 3 <;> exact Fin.ext (by simp only; omega)

/-- The sines of the angles of a row. -/
theorem pay10_apply (v55 : FVec Ideal S1x1x64 .f32) (v81 : BitVec 32) (v83 : IVec S1x1x64 32)
    (p0 p1 : Vec Ideal S1x32x8x1 .f32) (r : Fin 256) (l : Fin 512) :
    k0_pay10 v55 v81 v83 p0 p1 (ix2 r l) = Ideal.sin (k0_pay8 v55 v81 v83 p0 p1 (ix3 (chan r) (spot r) (inner l))) := by
  unfold k0_pay10
  generalize k0_pay8 v55 v81 v83 p0 p1 = X
  pointwise [chan, spot, inner]
  split_ifs <;> congr 3 <;> exact Fin.ext (by simp only; omega)

/-- The mask of the lanes in the first half of their 32. -/
theorem pay13_apply (l : Fin 512) :
    k0_pay13 (Scalar.select (Scalar.cmpi .eq 32#32 0#32) 1#32 32#32) k0_pay11 k0_pay12 (ix2 0 l)
      = if l.val % 32 < 16 then 1#1 else 0#1 := by
  pointwise [k0_pay13, k0_pay11, k0_pay12]
  revert l
  decide +kernel

/-- The partner of a lane, chosen by the mask between the row shifted down and the row shifted up. -/
theorem partner_apply (t : Fin 512 → EReal) (l : Fin 512) :
    Scalar.select (if l.val % 32 < 16 then 1#1 else 0#1)
        (0 - if h : l.val < 496 then t ⟨16 + l.val, by omega⟩ else t ⟨l.val - 496, by omega⟩)
        (if h : l.val < 16 then t ⟨496 + l.val, by omega⟩ else t ⟨l.val - 16, by omega⟩)
      = partner t l := by
  have up : (if h : l.val < 496 then t ⟨16 + l.val, by omega⟩ else t ⟨l.val - 496, by omega⟩)
      = t ⟨(l.val + 16) % 512, Nat.mod_lt _ (by norm_num)⟩ := by
    split_ifs <;> exact congrArg t (Fin.mk_eq_mk.2 (by omega))
  have down : (if h : l.val < 16 then t ⟨496 + l.val, by omega⟩ else t ⟨l.val - 16, by omega⟩)
      = t ⟨(l.val + 496) % 512, Nat.mod_lt _ (by norm_num)⟩ := by
    split_ifs <;> exact congrArg t (Fin.mk_eq_mk.2 (by omega))
  rw [up, down, partner]
  by_cases h : l.val % 32 < 16
  · rw [if_pos h, if_pos h]; rfl
  · rw [if_neg h, if_neg h]; rfl

/-- The turned query row, scaled by an eighth. -/
theorem pay16_apply (v35 v118 v119 : FVec Ideal S256x512 .f32) (r : Fin 256) (l : Fin 512) :
    k0_pay16 v35 v118 v119 (Scalar.select (Scalar.cmpi .eq 32#32 0#32) 1#32 32#32) k0_pay11 k0_pay12 (ix2 r l)
      = (v35 (ix2 r l) * v118 (ix2 r l) + partner (fun k => v35 (ix2 r k)) l * v119 (ix2 r l)) * ((1 / 8 : ℝ) : EReal) := by
  rw [← partner_apply, ← pay13_apply]
  unfold k0_pay16
  generalize k0_pay13 (Scalar.select (Scalar.cmpi .eq 32#32 0#32) 1#32 32#32) k0_pay11 k0_pay12 = X
  pointwise [word_eighth]

/-- The turned key row. -/
theorem pay17_apply (v36 v118 v119 : FVec Ideal S256x512 .f32) (r : Fin 256) (l : Fin 512) :
    k0_pay17 v36 v118 v119 (Scalar.select (Scalar.cmpi .eq 32#32 0#32) 1#32 32#32) k0_pay11 k0_pay12 (ix2 r l)
      = v36 (ix2 r l) * v118 (ix2 r l) + partner (fun k => v36 (ix2 r k)) l * v119 (ix2 r l) := by
  rw [← partner_apply, ← pay13_apply]
  unfold k0_pay17
  generalize k0_pay13 (Scalar.select (Scalar.cmpi .eq 32#32 0#32) 1#32 32#32) k0_pay11 k0_pay12 = X
  pointwise []

end Cert.Layer

end
-- ==== Proof.KernelHeads.lean ====
/- What one block of the kernel computes in attention: every head is one function of three column bands, read at an
   index; and the row after attention. -/
module

public import proofs.«01_k».proof.Proof.KernelRows

@[expose] public section

noncomputable section

namespace Cert.Layer

open Idealize.ShloMosaic Cert.KernelIdeal Cert.KernelIdeal.Gen
open scoped BigOperators

/-- The masked exponential of the score of two rows in a band of 64 lanes. -/
def weight (B : FVec Ideal S256x256 .f32) (q k : FVec Ideal S256x64 .bf16) (r r' : Fin 256) : EReal :=
  Ideal.exp ((∑ e, q (ix2 r e) * k (ix2 r' e)) + B (ix2 r r'))

/-- One head: the values weighted by the exponentials, times the reciprocal of the exponentials' sum. -/
theorem pay22_apply (B : FVec Ideal S256x256 .f32) (q k v : FVec Ideal S256x64 .bf16) (r : Fin 256) (d : Fin 64) :
    k0_pay22 B k0_pay15 q k v (ix2 r d)
      = (∑ r', weight B q k r r' * v (ix2 r' d))
          * Ideal.div ((1 : ℝ) : EReal) (∑ r', weight B q k r r' * ((1 : ℝ) : EReal)) := by
  pointwise [k0_pay22, k0_pay15, weight, word_one, word_one_b]

/-- The 64 columns of a head. -/
def cut (h : Fin 8) (x : FVec Ideal S256x512 .bf16) : FVec Ideal S256x64 .bf16 := fun j => x (ix2 (j 0) (lane h (j 1)))

/-- A slice of 64 columns at the head's offset is the head's columns. -/
theorem slice_eq_cut (h : Fin 8) (x : FVec Ideal S256x512 .bf16) (o : Fin 2 → Nat) (ho : o = ![0, 64 * h.val])
    (hs : S256x512.Slices o S256x64) : extractStridedSlice S256x64 o x hs = cut h x := by
  subst ho
  funext j
  pointwise [cut, lane]

/-- A head of the block. -/
def headAt (B : FVec Ideal S256x256 .f32) (q k v : FVec Ideal S256x512 .bf16) (h : Fin 8) : FVec Ideal S256x64 .f32 :=
  k0_pay22 B k0_pay15 (cut h q) (cut h k) (cut h v)

/-- The function of three bands at a head's offset is the head. -/
theorem head_eq (B : FVec Ideal S256x256 .f32) (q k v : FVec Ideal S256x512 .bf16) (h : Fin 8) (o : Fin 2 → Nat)
    (ho : o = ![0, 64 * h.val]) (hs : S256x512.Slices o S256x64) :
    k0_pay22 B k0_pay15 (extractStridedSlice S256x64 o q hs) (extractStridedSlice S256x64 o k hs)
      (extractStridedSlice S256x64 o v hs) = headAt B q k v h := by
  rw [slice_eq_cut h q o ho hs, slice_eq_cut h k o ho hs, slice_eq_cut h v o ho hs, headAt]

/-- Eight heads side by side. -/
def join (H : Fin 8 → FVec Ideal S256x64 .f32) : FVec Ideal S256x512 .f32 :=
  concatenate S256x512 1 [⟨S256x64, H 0⟩, ⟨S256x64, H 1⟩, ⟨S256x64, H 2⟩, ⟨S256x64, H 3⟩, ⟨S256x64, H 4⟩, ⟨S256x64, H 5⟩,
    ⟨S256x64, H 6⟩, ⟨S256x64, H 7⟩]
    concatenates_S256x64_S256x64_S256x64_S256x64_S256x64_S256x64_S256x64_S256x64_S256x512_d1

/-- A lane of eight heads side by side is the lane within its head. -/
theorem join_apply (H : Fin 8 → FVec Ideal S256x64 .f32) (r : Fin 256) (l : Fin 512) :
    join H (ix2 r l) = H (headOf l) (ix2 r (inner l)) := by
  have key : ∀ (h : Fin 8) (e : Fin 64), h.val = l.val / 64 → e.val = l.val % 64 →
      H h (ix2 r e) = H (headOf l) (ix2 r (inner l)) := by
    intro h e hh he
    have e1 : h = headOf l := Fin.ext hh
    have e2 : e = inner l := Fin.ext he
    rw [e1, e2]
  unfold join
  pointwise []
  split_ifs <;> exact key _ _ (by show _ = _; first | omega | (simp; omega)) (by show _ = _; first | omega | (simp only; omega))

/-- The output map of eight heads, added to the row. -/
def afterHeads (X : FVec Ideal S256x512 .f32) (H : Fin 8 → FVec Ideal S256x64 .f32) (Wo : Vec Ideal S512x512 .bf16)
    (bo : Vec Ideal S1x512 .f32) : FVec Ideal S256x512 .f32 :=
  addf X (addf (matmul dot_S256x512_S512x512_S256x512_1_0_0_1_n_n none (truncf .bf16 (join H) bitsLt_bf16_f32)
      (shapeCast S512x512 Wo shapeCasts_S512x512_S512x512 : FVec Ideal S512x512 .bf16) (constant S256x512 .f32 0x00000000#32))
    (broadcastTo S256x512 (shapeCast S1x512 bo shapeCasts_S1x512_S1x512) broadcasts_S1x512_S256x512))

/-- The row after the output map, at an index. -/
theorem afterHeads_apply (X : FVec Ideal S256x512 .f32) (H : Fin 8 → FVec Ideal S256x64 .f32)
    (Wo : Vec Ideal S512x512 .bf16) (bo : Vec Ideal S1x512 .f32) (r : Fin 256) (l : Fin 512) :
    afterHeads X H Wo bo (ix2 r l)
      = X (ix2 r l) + lin (fun k j => Wo (ix2 k j)) (fun j => bo (ix2 0 j)) (fun j => H (headOf j) (ix2 r (inner j))) l := by
  unfold afterHeads lin
  simp only [← join_apply]
  generalize join H = J
  pointwise []

/-- **The block after attention**: its value is the output map of the eight heads, added to the rows. -/
theorem pay33_eq (X : FVec Ideal S256x512 .f32) (B : FVec Ideal S256x256 .f32) (q k v : FVec Ideal S256x512 .bf16)
    (Wo : Vec Ideal S512x512 .bf16) (bo : Vec Ideal S1x512 .f32) :
    k0_pay33 X B k0_pay15 q k v
      (k0_pay22 B k0_pay15 (extractStridedSlice S256x64 ![0, 0] q slices_S256x512_o0_0_S256x64)
        (extractStridedSlice S256x64 ![0, 0] k slices_S256x512_o0_0_S256x64)
        (extractStridedSlice S256x64 ![0, 0] v slices_S256x512_o0_0_S256x64))
      (k0_pay23 B k0_pay15 q k v) (k0_pay24 B k0_pay15 q k v)
      (k0_pay27 k0_pay15 (k0_pay25 v) (k0_pay26 B q k) (constant S256x8 .f32 0x00000000#32))
      (k0_pay28 B k0_pay15 q k v) (k0_pay29 B k0_pay15 q k v) (k0_pay30 v) (k0_pay31 B q k) (k0_pay32 B k0_pay15 q k)
      (constant S256x64 .f32 0x00000000#32) Wo bo
      = afterHeads X (headAt B q k v) Wo bo := by
  unfold afterHeads join
  rw [← head_eq B q k v 0 ![0, 0] rfl slices_S256x512_o0_0_S256x64,
    ← head_eq B q k v 1 ![0, 64] rfl slices_S256x512_o0_64_S256x64,
    ← head_eq B q k v 2 ![0, 128] rfl slices_S256x512_o0_128_S256x64,
    ← head_eq B q k v 3 ![0, 192] rfl slices_S256x512_o0_192_S256x64,
    ← head_eq B q k v 4 ![0, 256] rfl slices_S256x512_o0_256_S256x64,
    ← head_eq B q k v 5 ![0, 320] rfl slices_S256x512_o0_320_S256x64,
    ← head_eq B q k v 6 ![0, 384] rfl slices_S256x512_o0_384_S256x64,
    ← head_eq B q k v 7 ![0, 448] rfl slices_S256x512_o0_448_S256x64]
  rfl

end Cert.Layer

end
-- ==== Proof.KernelFeed.lean ====
/- What one block of the kernel computes after attention, row by row: the normalised row and the feed-forward part. -/
module

public import proofs.«01_k».proof.Proof.KernelRows

@[expose] public section

noncomputable section

namespace Cert.Layer

open Idealize.ShloMosaic Cert.KernelIdeal Cert.KernelIdeal.Gen
open scoped BigOperators

/-- The centred row over its deviation. -/
theorem pay34_apply (v2 : FVec Ideal S256x512 .f32) (v170 : FVec Ideal S256x256 .f32) (v171 : FVec Ideal S256x8 .bf16)
    (v172 v173 v174 : FVec Ideal S256x512 .bf16) (v188 v202 v216 v230 v244 v258 : FVec Ideal S256x64 .f32)
    (v261 : FVec Ideal S256x64 .bf16) (v265 : FVec Ideal S256x256 .bf16) (v269 : FVec Ideal S256x1 .f32)
    (z : FVec Ideal S256x64 .f32) (v289 : Vec Ideal S512x512 .bf16) (v292 : Vec Ideal S1x512 .f32)
    (Y : FVec Ideal S256x512 .f32)
    (hY : k0_pay33 v2 v170 v171 v172 v173 v174 v188 v202 v216 v230 v244 v258 v261 v265 v269 z v289 v292 = Y)
    (r : Fin 256) (l : Fin 512) :
    k0_pay34 v2 v170 v171 v172 v173 v174 v188 v202 v216 v230 v244 v258 v261 v265 v269 z v289 v292 (ix2 r l)
      = center (fun k => Y (ix2 r k)) l * Ideal.rsqrt (var (fun k => Y (ix2 r k)) + eps) := by
  unfold k0_pay34
  rw [hY]
  pointwise []
  simp only [center, mean, var, word_512, word_eps]

/-- The cube's factor. -/
theorem named_cubic :
    Named.named (F := Ideal) κ "gelu_cubic" (φ := .bf16) 0x3D37#16 = ((12003091 / 268435456 : ℝ) : EReal) :=
  IdealRules.named_const.ideal_named_scalar _ _ _ _ rfl

/-- The factor inside the hyperbolic tangent. -/
theorem named_root :
    Named.named (F := Ideal) κ "gelu_root" (φ := .bf16) 0x3F4C#16 = ((6693141 / 8388608 : ℝ) : EReal) :=
  IdealRules.named_const.ideal_named_scalar _ _ _ _ rfl

/-- The block's result: the row plus the feed-forward part of its normalised row. -/
theorem pay35_apply (Y Z : FVec Ideal S256x512 .f32) (g b : Vec Ideal S1x512 .f32) (W1 : Vec Ideal S512x2048 .bf16)
    (b1 : Vec Ideal S1x2048 .f32) (W2 : Vec Ideal S2048x512 .bf16) (b2 : Vec Ideal S1x512 .f32) (c : Fin 32) (s : Fin 8)
    (l : Fin 512) :
    k0_pay35 Y Z g b W1 b1 W2 b2 (ix4 0 c s l)
      = Y (ix2 (row c s) l) + lin (fun k j => W2 (ix2 k j)) (fun j => b2 (ix2 0 j))
          (fun j => gelu (lin (fun k j => W1 (ix2 k j)) (fun j => b1 (ix2 0 j))
            (fun k => Z (ix2 (row c s) k) * g (ix2 0 k) + b (ix2 0 k)) j)) l := by
  pointwise [k0_pay35, lin, gelu, row, named_cubic, named_root, word_one_b, word_half_b]
  simp only [mul_assoc]

end Cert.Layer

end
-- ==== Proof.KernelBlock.lean ====
/- What one block of the kernel computes: the layer at each of its eight positions. -/
module

public import proofs.«01_k».proof.Proof.KernelHeads
public import proofs.«01_k».proof.Proof.KernelFeed
public import proofs.«01_k».proof.Proof.Gen.KernelIdeal.Frame

@[expose] public section

noncomputable section

namespace Cert.Layer

open Idealize.ShloMosaic Cert.KernelIdeal Cert.KernelIdeal.Gen
open scoped BigOperators

/-- The layer's coefficients, from the blocks that hold them. -/
def parOf (x4 x5 : Vec Ideal S1x512 .f32) (x6 : Vec Ideal S512x1536 .bf16) (x7 : Vec Ideal S1x1536 .f32)
    (x8 : Vec Ideal S512x512 .bf16) (x9 x10 x11 : Vec Ideal S1x512 .f32) (x12 : Vec Ideal S512x2048 .bf16)
    (x13 : Vec Ideal S1x2048 .f32) (x14 : Vec Ideal S2048x512 .bf16) (x15 : Vec Ideal S1x512 .f32) : Par where
  g1 k := x4 (ix2 0 k)
  be1 k := x5 (ix2 0 k)
  Wq k j := x6 (ix2 k ⟨j.val, by omega⟩)
  bq j := x7 (ix2 0 ⟨j.val, by omega⟩)
  Wk k j := x6 (ix2 k ⟨512 + j.val, by omega⟩)
  bk j := x7 (ix2 0 ⟨512 + j.val, by omega⟩)
  Wv k j := x6 (ix2 k ⟨1024 + j.val, by omega⟩)
  bv j := x7 (ix2 0 ⟨1024 + j.val, by omega⟩)
  Wo k j := x8 (ix2 k j)
  bo j := x9 (ix2 0 j)
  g2 k := x10 (ix2 0 k)
  be2 k := x11 (ix2 0 k)
  W1 k j := x12 (ix2 k j)
  bf1 j := x13 (ix2 0 j)
  W2 k j := x14 (ix2 k j)
  bf2 j := x15 (ix2 0 j)

section Block

variable (x0 : Vec Ideal S1x32x8x512 .f32) (x1 x2 : Vec Ideal S1x32x8x1 .f32) (x3 : Vec Ideal S256x256 .f32)
  (x4 x5 : Vec Ideal S1x512 .f32) (x6 : Vec Ideal S512x1536 .bf16) (x7 : Vec Ideal S1x1536 .f32)
  (x8 : Vec Ideal S512x512 .bf16) (x9 x10 x11 : Vec Ideal S1x512 .f32) (x12 : Vec Ideal S512x2048 .bf16)
  (x13 : Vec Ideal S1x2048 .f32) (x14 : Vec Ideal S2048x512 .bf16) (x15 : Vec Ideal S1x512 .f32)

/-- The cosines of the block's angles. -/
abbrev cosB : FVec Ideal S256x512 .f32 :=
  k0_pay9 (k0_pay6 (F := Ideal) lanes 16#32) (Scalar.select (Scalar.cmpi .eq 2#32 0#32) 1#32 2#32) (k0_pay7 lanes) x1 x2

/-- The sines of the block's angles. -/
abbrev sinB : FVec Ideal S256x512 .f32 :=
  k0_pay10 (k0_pay6 (F := Ideal) lanes 16#32) (Scalar.select (Scalar.cmpi .eq 2#32 0#32) 1#32 2#32) (k0_pay7 lanes) x1 x2

/-- The block's scaled query rows. -/
abbrev queryB : FVec Ideal S256x512 .bf16 :=
  k0_pay16 (k0_pay3 x0 x4 x5 x6 x7) (cosB x1 x2) (sinB x1 x2) (Scalar.select (Scalar.cmpi .eq 32#32 0#32) 1#32 32#32)
    k0_pay11 k0_pay12

/-- The block's key rows. -/
abbrev keyB : FVec Ideal S256x512 .bf16 :=
  k0_pay17 (k0_pay4 x0 x4 x5 x6 x7) (cosB x1 x2) (sinB x1 x2) (Scalar.select (Scalar.cmpi .eq 32#32 0#32) 1#32 32#32)
    k0_pay11 k0_pay12

/-- The block's value rows. -/
abbrev valueB : FVec Ideal S256x512 .bf16 := k0_pay18 (k0_pay5 x0 x4 x5 x6 x7)

/-- The block's rows after attention. -/
abbrev midB : FVec Ideal S256x512 .f32 :=
  afterHeads (k0_pay1 x0)
    (headAt (k0_pay14 x3) (queryB x0 x1 x2 x4 x5 x6 x7) (keyB x0 x1 x2 x4 x5 x6 x7) (valueB x0 x4 x5 x6 x7)) x8 x9

/-- The block's result is the feed-forward part of the rows after attention. -/
theorem out_apply (c : Fin 32) (s : Fin 8) (l : Fin 512) :
    out0_16 x0 x1 x2 x3 x4 x5 x6 x7 x8 x9 x10 x11 x12 x13 x14 x15 (ix4 0 c s l)
      = feed (parOf x4 x5 x6 x7 x8 x9 x10 x11 x12 x13 x14 x15)
          (fun k => midB x0 x1 x2 x3 x4 x5 x6 x7 x8 x9 (ix2 (row c s) k)) l := by
  have hz4 : (![0, 0, 0, 0] : Fin 4 → Nat) = fun _ => 0 := by decide
  have hz2 : (![0, 0] : Fin 2 → Nat) = fun _ => 0 := by decide
  unfold_out out0_16
  rw [View.canon_unit_zero hz4]
  simp only [View.ld_unit_zero (S := S1x32x8x512) hz4, View.ld_unit_zero (S := S1x32x8x1) hz4,
    View.ld_unit_zero (S := S1x512) hz2, View.ld_unit_zero (S := S512x1536) hz2, View.ld_unit_zero (S := S1x1536) hz2,
    View.ld_unit_zero (S := S256x256) hz2, View.ld_unit_zero (S := S512x512) hz2, View.ld_unit_zero (S := S512x2048) hz2,
    View.ld_unit_zero (S := S1x2048) hz2, View.ld_unit_zero (S := S2048x512) hz2, k0_pay19, k0_pay20, k0_pay21]
  rw [pay35_apply]
  simp only [pay34_apply _ _ _ _ _ _ _ _ _ _ _ _ _ _ _ _ _ _ _ (pay33_eq _ _ _ _ _ _ _), pay33_eq]
  have hn : ∀ y, (fun k => center y k * Ideal.rsqrt (var y + eps) * x10 (ix2 0 k) + x11 (ix2 0 k))
      = norm (fun k => x10 (ix2 0 k)) (fun k => x11 (ix2 0 k)) y := fun y => funext (norm_eq _ _ y)
  rw [hn]
  rfl

/-- The row of the block at a channel and a position. -/
abbrev rowB (s : Fin 8) (c : Fin 32) : Fin 512 → EReal := fun k => x0 (ix4 0 c s k)

/-- The first coordinates of a position. -/
abbrev firstB (s : Fin 8) (c : Fin 32) : EReal := x1 (ix4 0 c s 0)

/-- The second coordinates of a position. -/
abbrev secondB (s : Fin 8) (c : Fin 32) : EReal := x2 (ix4 0 c s 0)

theorem chan_row (c : Fin 32) (s : Fin 8) : chan (row c s) = c :=
  Fin.ext (by show (c.val * 8 + s.val) / 8 = c.val; omega)

theorem spot_row (c : Fin 32) (s : Fin 8) : spot (row c s) = s :=
  Fin.ext (by show (c.val * 8 + s.val) % 8 = s.val; omega)

theorem lane_headOf_inner (l : Fin 512) : lane (headOf l) (inner l) = l :=
  Fin.ext (by show 64 * (l.val / 64) + l.val % 64 = l.val; omega)

/-- The scaled query row of a channel at a position. -/
theorem queryB_apply (c : Fin 32) (s : Fin 8) (l : Fin 512) :
    queryB x0 x1 x2 x4 x5 x6 x7 (ix2 (row c s) l)
      = query (parOf x4 x5 x6 x7 x8 x9 x10 x11 x12 x13 x14 x15) (firstB x1 s c) (secondB x2 s c) (rowB x0 s c) l
          * ((1 / 8 : ℝ) : EReal) := by
  unfold queryB cosB sinB
  rw [pay16_apply, pay9_apply, pay10_apply, pay8_apply, chan_row, spot_row]
  simp only [pay3_apply, pay2_apply, pay1_apply, chan_row, spot_row]
  rfl

/-- The key row of a channel at a position. -/
theorem keyB_apply (c : Fin 32) (s : Fin 8) (l : Fin 512) :
    keyB x0 x1 x2 x4 x5 x6 x7 (ix2 (row c s) l)
      = key (parOf x4 x5 x6 x7 x8 x9 x10 x11 x12 x13 x14 x15) (firstB x1 s c) (secondB x2 s c) (rowB x0 s c) l := by
  unfold keyB cosB sinB
  rw [pay17_apply, pay9_apply, pay10_apply, pay8_apply, chan_row, spot_row]
  simp only [pay4_apply, pay2_apply, pay1_apply, chan_row, spot_row]
  rfl

/-- The value row of a channel at a position. -/
theorem valueB_apply (c : Fin 32) (s : Fin 8) (l : Fin 512) :
    valueB x0 x4 x5 x6 x7 (ix2 (row c s) l)
      = value (parOf x4 x5 x6 x7 x8 x9 x10 x11 x12 x13 x14 x15) (rowB x0 s c) l := by
  have h : valueB x0 x4 x5 x6 x7 (ix2 (row c s) l) = k0_pay5 x0 x4 x5 x6 x7 (ix2 (row c s) l) := by
    unfold valueB
    generalize k0_pay5 x0 x4 x5 x6 x7 = X
    pointwise [k0_pay18]
  rw [h, pay5_apply, pay2_apply]
  simp only [pay1_apply, chan_row, spot_row]
  rfl

/-- A head of the block is the attention of its lanes. -/
theorem headB_apply (hP : (parOf x4 x5 x6 x7 x8 x9 x10 x11 x12 x13 x14 x15).Fits)
    (h1 : ∀ j, IsReal (x1 j)) (h2 : ∀ j, IsReal (x2 j)) (hg : ∀ r r', x3 (ix2 r r') = gate r r')
    (c : Fin 32) (s : Fin 8) (l : Fin 512) :
    headAt (k0_pay14 x3) (queryB x0 x1 x2 x4 x5 x6 x7) (keyB x0 x1 x2 x4 x5 x6 x7) (valueB x0 x4 x5 x6 x7) (headOf l)
        (ix2 (row c s) (inner l))
      = attend (parOf x4 x5 x6 x7 x8 x9 x10 x11 x12 x13 x14 x15) (firstB x1 s) (secondB x2 s) (rowB x0 s) c l := by
  have hv : ∀ r', cut (headOf l) (valueB x0 x4 x5 x6 x7) (ix2 r' (inner l))
      = value (parOf x4 x5 x6 x7 x8 x9 x10 x11 x12 x13 x14 x15) (rowB x0 (spot r') (chan r')) l := by
    intro r'
    show valueB x0 x4 x5 x6 x7 (ix2 r' (lane (headOf l) (inner l))) = _
    rw [lane_headOf_inner]
    conv_lhs => rw [← row_chan_spot r']
    exact valueB_apply x0 x4 x5 x6 x7 x8 x9 x10 x11 x12 x13 x14 x15 (chan r') (spot r') l
  have hw : ∀ r', weight (k0_pay14 x3) (cut (headOf l) (queryB x0 x1 x2 x4 x5 x6 x7))
        (cut (headOf l) (keyB x0 x1 x2 x4 x5 x6 x7)) (row c s) r'
      = Ideal.exp (logit (query (parOf x4 x5 x6 x7 x8 x9 x10 x11 x12 x13 x14 x15) (firstB x1 s c) (secondB x2 s c) (rowB x0 s c))
          (key (parOf x4 x5 x6 x7 x8 x9 x10 x11 x12 x13 x14 x15) (firstB x1 (spot r') (chan r')) (secondB x2 (spot r') (chan r'))
            (rowB x0 (spot r') (chan r'))) (headOf l) + gate (row c s) r') := by
    intro r'
    rw [← logit_scaled, ← hg]
    have h14 : k0_pay14 x3 (ix2 (row c s) r') = x3 (ix2 (row c s) r') := by pointwise [k0_pay14]
    unfold weight
    rw [h14]
    congr 2
    refine Finset.sum_congr rfl fun e _ => ?_
    show queryB x0 x1 x2 x4 x5 x6 x7 (ix2 (row c s) (lane (headOf l) e)) * keyB x0 x1 x2 x4 x5 x6 x7 (ix2 r' (lane (headOf l) e)) = _
    conv_lhs => rw [← row_chan_spot r']
    rw [queryB_apply x0 x1 x2 x4 x5 x6 x7 x8 x9 x10 x11 x12 x13 x14 x15,
      keyB_apply x0 x1 x2 x4 x5 x6 x7 x8 x9 x10 x11 x12 x13 x14 x15]
  unfold headAt
  rw [pay22_apply]
  simp only [hv, hw]
  refine (soft_rows (fun r' => logit _ (key _ (firstB x1 (spot r') (chan r')) (secondB x2 (spot r') (chan r'))
    (rowB x0 (spot r') (chan r'))) (headOf l)) (fun r' => value _ (rowB x0 (spot r') (chan r')) l) c s ?_).trans ?_
  · intro k
    exact logit_query_key_isReal _ hP (h1 _) (h2 _) (h1 _) (h2 _) _ _ _
  · simp only [chan_row, spot_row]
    rfl

/-- **The block**: with real coefficients in the logits, real coordinates and the mask of rows of one position, the block
    holds the layer at each of its positions. -/
theorem block_apply (hP : (parOf x4 x5 x6 x7 x8 x9 x10 x11 x12 x13 x14 x15).Fits)
    (h1 : ∀ j, IsReal (x1 j)) (h2 : ∀ j, IsReal (x2 j)) (hg : ∀ r r', x3 (ix2 r r') = gate r r')
    (c : Fin 32) (s : Fin 8) (l : Fin 512) :
    out0_16 x0 x1 x2 x3 x4 x5 x6 x7 x8 x9 x10 x11 x12 x13 x14 x15 (ix4 0 c s l)
      = layer (parOf x4 x5 x6 x7 x8 x9 x10 x11 x12 x13 x14 x15) (firstB x1 s) (secondB x2 s) (rowB x0 s) c l := by
  rw [out_apply]
  unfold layer
  congr 1
  funext k
  unfold midB
  rw [afterHeads_apply, pay1_apply, chan_row, spot_row]
  simp only [headB_apply x0 x1 x2 x3 x4 x5 x6 x7 x8 x9 x10 x11 x12 x13 x14 x15 hP h1 h2 hg]
  rfl

end Block

end Cert.Layer

end
-- ==== Proof.KernelHost.lean ====
/- What the arrays that the kernel's region reads hold, from the program's arguments. -/
module

public import proofs.«01_k».proof.Proof.KernelBlock
public import Idealize.ShloMosaic.Lib.Pointwise
public import Idealize.ShloMosaic.Lib.Tactic

@[expose] public section

noncomputable section

namespace Cert.Layer

open Idealize.ShloMosaic Idealize.ShloMosaic.TcCoe Cert.KernelIdeal Cert.KernelIdeal.Gen

/-- The layer's coefficients, from the arrays that hold them one by one. -/
def parArgs (a3 a4 : Vec Ideal S512 .f32) (a5 : Vec Ideal S512x512 .f32) (a6 : Vec Ideal S512 .f32) (a7 : Vec Ideal S512x512 .f32)
    (a8 : Vec Ideal S512 .f32) (a9 : Vec Ideal S512x512 .f32) (a10 : Vec Ideal S512 .f32) (a11 : Vec Ideal S512x512 .f32)
    (a12 a13 a14 : Vec Ideal S512 .f32) (a15 : Vec Ideal S512x2048 .f32) (a16 : Vec Ideal S2048 .f32)
    (a17 : Vec Ideal S2048x512 .f32) (a18 : Vec Ideal S512 .f32) : Par where
  g1 k := a3 (ix1 k)
  be1 k := a4 (ix1 k)
  Wq k j := a5 (ix2 k j)
  bq j := a6 (ix1 j)
  Wk k j := a7 (ix2 k j)
  bk j := a8 (ix1 j)
  Wv k j := a9 (ix2 k j)
  bv j := a10 (ix1 j)
  Wo k j := a11 (ix2 k j)
  bo j := a12 (ix1 j)
  g2 k := a13 (ix1 k)
  be2 k := a14 (ix1 k)
  W1 k j := a15 (ix2 k j)
  bf1 j := a16 (ix1 j)
  W2 k j := a17 (ix2 k j)
  bf2 j := a18 (ix1 j)

/-- A vector of 512 as one row, at a column. -/
theorem one_row (a : Vec Ideal S512 .f32) (k : Fin 512) : shapeCast S1x512 a shapeCasts_S512_S1x512 (ix2 0 k) = a (ix1 k) := by
  pointwise []

/-- A vector of 2048 as one row, at a column. -/
theorem one_row_wide (a : Vec Ideal S2048 .f32) (k : Fin 2048) :
    shapeCast S1x2048 a shapeCasts_S2048_S1x2048 (ix2 0 k) = a (ix1 k) := by
  pointwise []

/-- Three matrices side by side, in a narrower format, at an entry. -/
theorem beside_apply (a b d : Vec Ideal S512x512 .f32) (k : Fin 512) (j : Fin 1536) :
    (truncf FTy.bf16 (concatenate S512x1536 1 [⟨S512x512, a⟩, ⟨S512x512, b⟩, ⟨S512x512, d⟩]
        concatenates_S512x512_S512x512_S512x512_S512x1536_d1 : FVec Ideal S512x1536 .f32) bitsLt_bf16_f32 : FVec Ideal S512x1536 .bf16) (ix2 k j)
      = if h : j.val < 512 then a (ix2 k ⟨j.val, h⟩) else if h : j.val - 512 < 512 then b (ix2 k ⟨j.val - 512, by omega⟩)
        else d (ix2 k ⟨j.val - 512 - 512, by omega⟩) := by
  pointwise []

/-- Three vectors end to end, as one row, at a column. -/
theorem in_line_apply (a b d : Vec Ideal S512 .f32) (j : Fin 1536) :
    (shapeCast S1x1536 (concatenate S1536 0 [⟨S512, a⟩, ⟨S512, b⟩, ⟨S512, d⟩]
        concatenates_S512_S512_S512_S1536_d0 : Vec Ideal S1536 .f32) shapeCasts_S1536_S1x1536) (ix2 0 j)
      = if h : j.val < 512 then a (ix1 ⟨j.val, h⟩) else if h : j.val - 512 < 512 then b (ix1 ⟨j.val - 512, by omega⟩)
        else d (ix1 ⟨j.val - 512 - 512, by omega⟩) := by
  pointwise []

/-- A column of the joined matrix that comes from the first. -/
theorem beside_left (a b d : Vec Ideal S512x512 .f32) (k j : Fin 512) :
    (truncf FTy.bf16 (concatenate S512x1536 1 [⟨S512x512, a⟩, ⟨S512x512, b⟩, ⟨S512x512, d⟩]
        concatenates_S512x512_S512x512_S512x512_S512x1536_d1 : FVec Ideal S512x1536 .f32) bitsLt_bf16_f32 : FVec Ideal S512x1536 .bf16) (ix2 k ⟨j.val, by omega⟩)
      = a (ix2 k j) := by
  refine (beside_apply a b d k ⟨j.val, by omega⟩).trans ?_
  rw [dif_pos j.isLt]

/-- A column of the joined matrix that comes from the second. -/
theorem beside_mid (a b d : Vec Ideal S512x512 .f32) (k j : Fin 512) :
    (truncf FTy.bf16 (concatenate S512x1536 1 [⟨S512x512, a⟩, ⟨S512x512, b⟩, ⟨S512x512, d⟩]
        concatenates_S512x512_S512x512_S512x512_S512x1536_d1 : FVec Ideal S512x1536 .f32) bitsLt_bf16_f32 : FVec Ideal S512x1536 .bf16) (ix2 k ⟨512 + j.val, by omega⟩)
      = b (ix2 k j) := by
  refine (beside_apply a b d k ⟨512 + j.val, by omega⟩).trans ?_
  rw [dif_neg (show ¬ (512 + j.val < 512) by omega), dif_pos (show 512 + j.val - 512 < 512 by omega)]
  exact congrArg (fun i => b (ix2 k i)) (Fin.ext (show 512 + j.val - 512 = j.val by omega))

/-- A column of the joined matrix that comes from the third. -/
theorem beside_right (a b d : Vec Ideal S512x512 .f32) (k j : Fin 512) :
    (truncf FTy.bf16 (concatenate S512x1536 1 [⟨S512x512, a⟩, ⟨S512x512, b⟩, ⟨S512x512, d⟩]
        concatenates_S512x512_S512x512_S512x512_S512x1536_d1 : FVec Ideal S512x1536 .f32) bitsLt_bf16_f32 : FVec Ideal S512x1536 .bf16) (ix2 k ⟨1024 + j.val, by omega⟩)
      = d (ix2 k j) := by
  refine (beside_apply a b d k ⟨1024 + j.val, by omega⟩).trans ?_
  rw [dif_neg (show ¬ (1024 + j.val < 512) by omega), dif_neg (show ¬ (1024 + j.val - 512 < 512) by omega)]
  exact congrArg (fun i => d (ix2 k i)) (Fin.ext (show 1024 + j.val - 512 - 512 = j.val by omega))

/-- An entry of the joined vector that comes from the first. -/
theorem in_line_left (a b d : Vec Ideal S512 .f32) (j : Fin 512) :
    (shapeCast S1x1536 (concatenate S1536 0 [⟨S512, a⟩, ⟨S512, b⟩, ⟨S512, d⟩]
        concatenates_S512_S512_S512_S1536_d0 : Vec Ideal S1536 .f32) shapeCasts_S1536_S1x1536) (ix2 0 ⟨j.val, by omega⟩)
      = a (ix1 j) := by
  refine (in_line_apply a b d ⟨j.val, by omega⟩).trans ?_
  rw [dif_pos j.isLt]

/-- An entry of the joined vector that comes from the second. -/
theorem in_line_mid (a b d : Vec Ideal S512 .f32) (j : Fin 512) :
    (shapeCast S1x1536 (concatenate S1536 0 [⟨S512, a⟩, ⟨S512, b⟩, ⟨S512, d⟩]
        concatenates_S512_S512_S512_S1536_d0 : Vec Ideal S1536 .f32) shapeCasts_S1536_S1x1536) (ix2 0 ⟨512 + j.val, by omega⟩)
      = b (ix1 j) := by
  refine (in_line_apply a b d ⟨512 + j.val, by omega⟩).trans ?_
  rw [dif_neg (show ¬ (512 + j.val < 512) by omega), dif_pos (show 512 + j.val - 512 < 512 by omega)]
  exact congrArg (fun i => b (ix1 i)) (Fin.ext (show 512 + j.val - 512 = j.val by omega))

/-- An entry of the joined vector that comes from the third. -/
theorem in_line_right (a b d : Vec Ideal S512 .f32) (j : Fin 512) :
    (shapeCast S1x1536 (concatenate S1536 0 [⟨S512, a⟩, ⟨S512, b⟩, ⟨S512, d⟩]
        concatenates_S512_S512_S512_S1536_d0 : Vec Ideal S1536 .f32) shapeCasts_S1536_S1x1536) (ix2 0 ⟨1024 + j.val, by omega⟩)
      = d (ix1 j) := by
  refine (in_line_apply a b d ⟨1024 + j.val, by omega⟩).trans ?_
  rw [dif_neg (show ¬ (1024 + j.val < 512) by omega), dif_neg (show ¬ (1024 + j.val - 512 < 512) by omega)]
  exact congrArg (fun i => d (ix1 i)) (Fin.ext (show 1024 + j.val - 512 - 512 = j.val by omega))

/-- The host's remainder by eight, as it is printed. -/
def rem8 (n : BitVec 32) : BitVec 32 :=
  let e := Scalar.select (IntOp.cmpi CmpIPredicate.eq 8#32 0#32) 1#32 8#32
  let q := IntOp.remsi ArithUnit.host n e
  Scalar.select (IntOp.andi (IntOp.cmpi CmpIPredicate.ne (IntOp.cmpi CmpIPredicate.slt q 0#32) (IntOp.cmpi CmpIPredicate.slt e 0#32))
    (IntOp.cmpi CmpIPredicate.ne q 0#32)) (IntOp.addi q e) q

/-- The host's remainder of a row number is the row number's remainder. -/
theorem rem8_eq : ∀ r : Fin 256, rem8 (BitVec.ofNat 32 r.val) = BitVec.ofNat 32 (r.val % 8) := by
  decide +kernel

/-- The comparison of two remainders picks the gate. -/
theorem select_gate (r r' : Fin 256) :
    Scalar.select (IntOp.cmpi CmpIPredicate.eq (rem8 (BitVec.ofNat 32 r.val)) (rem8 (BitVec.ofNat 32 r'.val))) (0 : EReal) ⊥ = gate r r' := by
  rw [rem8_eq, rem8_eq]
  unfold gate
  by_cases h : r.val % 8 = r'.val % 8
  · rw [if_pos h, h]; simp [IntOp.cmpi, Scalar.select]
  · have h' : ¬ (BitVec.ofNat 32 (r.val % 8) = BitVec.ofNat 32 (r'.val % 8)) := fun e => h (by
      have := congrArg BitVec.toNat e
      simp only [BitVec.toNat_ofNat] at this
      omega)
    rw [if_neg h]
    refine if_neg (fun e => h' ?_)
    have e' : BitVec.ofBool (BitVec.ofNat 32 (r.val % 8) == BitVec.ofNat 32 (r'.val % 8)) = 1#1 := e
    by_contra hne
    rw [beq_eq_false_iff_ne.2 hne] at e'
    exact absurd e' (by decide)

section Region

variable (m : (ℓ : Loc nD τ sig) → Buf (Elt Ideal) ℓ) (c : Dev nD)

/-- A vector argument's array in the region is its one row. -/
theorem rows_held :
    (V m c main_v14 : Vec Ideal S1x512 .f32) = shapeCast S1x512 (m ((c : Thread nD τ).loc main_arg3) : Vec Ideal S512 .f32) shapeCasts_S512_S1x512
    ∧ (V m c main_v15 : Vec Ideal S1x512 .f32) = shapeCast S1x512 (m ((c : Thread nD τ).loc main_arg4) : Vec Ideal S512 .f32) shapeCasts_S512_S1x512
    ∧ (V m c main_v19 : Vec Ideal S1x512 .f32) = shapeCast S1x512 (m ((c : Thread nD τ).loc main_arg12) : Vec Ideal S512 .f32) shapeCasts_S512_S1x512
    ∧ (V m c main_v20 : Vec Ideal S1x512 .f32) = shapeCast S1x512 (m ((c : Thread nD τ).loc main_arg13) : Vec Ideal S512 .f32) shapeCasts_S512_S1x512
    ∧ (V m c main_v21 : Vec Ideal S1x512 .f32) = shapeCast S1x512 (m ((c : Thread nD τ).loc main_arg14) : Vec Ideal S512 .f32) shapeCasts_S512_S1x512
    ∧ (V m c main_v23 : Vec Ideal S1x2048 .f32) = shapeCast S1x2048 (m ((c : Thread nD τ).loc main_arg16) : Vec Ideal S2048 .f32) shapeCasts_S2048_S1x2048
    ∧ (V m c main_v25 : Vec Ideal S1x512 .f32) = shapeCast S1x512 (m ((c : Thread nD τ).loc main_arg18) : Vec Ideal S512 .f32) shapeCasts_S512_S1x512 := by
  refine ⟨?_, ?_, ?_, ?_, ?_, ?_, ?_⟩ <;>
  (simp only [V, hostOps0, hostOps0_1, hostOps0_2, hostOps0_3, hostOps0_4, hostOps0_5, hostOps0_6, List.flatten_cons, List.flatten_nil, List.append_nil,
    List.cons_append, List.nil_append]
   after_results_simp
   try rfl)

/-- A matrix argument's array in the region has the matrix's entries. -/
theorem mats_held :
    (∀ k j, (V m c main_v18 : Vec Ideal S512x512 .bf16) (ix2 k j) = (m ((c : Thread nD τ).loc main_arg11) : Vec Ideal S512x512 .f32) (ix2 k j))
    ∧ (∀ k j, (V m c main_v22 : Vec Ideal S512x2048 .bf16) (ix2 k j) = (m ((c : Thread nD τ).loc main_arg15) : Vec Ideal S512x2048 .f32) (ix2 k j))
    ∧ (∀ k j, (V m c main_v24 : Vec Ideal S2048x512 .bf16) (ix2 k j) = (m ((c : Thread nD τ).loc main_arg17) : Vec Ideal S2048x512 .f32) (ix2 k j)) := by
  refine ⟨fun k j => ?_, fun k j => ?_, fun k j => ?_⟩ <;>
  (simp only [V, hostOps0, hostOps0_1, hostOps0_2, hostOps0_3, hostOps0_4, hostOps0_5, hostOps0_6, List.flatten_cons, List.flatten_nil, List.append_nil,
      List.cons_append, List.nil_append]
   after_results_simp
   rfl)

/-- The joined projection matrix that the region reads. -/
theorem wide_held : (V m c main_v16 : FVec Ideal S512x1536 .bf16) = truncf FTy.bf16
    (concatenate S512x1536 1 [⟨S512x512, (m ((c : Thread nD τ).loc main_arg5) : Vec Ideal S512x512 .f32)⟩, ⟨S512x512, (m ((c : Thread nD τ).loc main_arg7) : Vec Ideal S512x512 .f32)⟩,
      ⟨S512x512, (m ((c : Thread nD τ).loc main_arg9) : Vec Ideal S512x512 .f32)⟩] concatenates_S512x512_S512x512_S512x512_S512x1536_d1 : FVec Ideal S512x1536 .f32) bitsLt_bf16_f32 := by
  simp only [V, hostOps0, hostOps0_1, hostOps0_2, hostOps0_3, hostOps0_4, hostOps0_5, hostOps0_6, List.flatten_cons, List.flatten_nil, List.append_nil,
    List.cons_append, List.nil_append]
  after_results_simp
  rfl

/-- The joined projection offsets that the region reads. -/
theorem line_held : (V m c main_v17 : Vec Ideal S1x1536 .f32) = shapeCast S1x1536
    (concatenate S1536 0 [⟨S512, (m ((c : Thread nD τ).loc main_arg6) : Vec Ideal S512 .f32)⟩, ⟨S512, (m ((c : Thread nD τ).loc main_arg8) : Vec Ideal S512 .f32)⟩,
      ⟨S512, (m ((c : Thread nD τ).loc main_arg10) : Vec Ideal S512 .f32)⟩] concatenates_S512_S512_S512_S1536_d0 : Vec Ideal S1536 .f32) shapeCasts_S1536_S1x1536 := by
  simp only [V, hostOps0, hostOps0_1, hostOps0_2, hostOps0_3, hostOps0_4, hostOps0_5, hostOps0_6, List.flatten_cons, List.flatten_nil, List.append_nil,
    List.cons_append, List.nil_append]
  after_results_simp
  rfl

/-- The two position arrays that the region reads are the two columns of the positions. -/
theorem cols_held : (V m c main_v0 : Vec Ideal S4x32x128x1 .f32)
      = extractStridedSlice S4x32x128x1 ![0, 0, 0, 0] (m ((c : Thread nD τ).loc main_arg1) : Vec Ideal S4x32x128x2 .f32) slices_S4x32x128x2_S4x32x128x1_0_0_0_0
    ∧ (V m c main_v1 : Vec Ideal S4x32x128x1 .f32)
      = extractStridedSlice S4x32x128x1 ![0, 0, 0, 1] (m ((c : Thread nD τ).loc main_arg1) : Vec Ideal S4x32x128x2 .f32) slices_S4x32x128x2_S4x32x128x1_0_0_0_1 := by
  refine ⟨?_, ?_⟩ <;>
  (simp only [V, hostOps0, hostOps0_1, hostOps0_2, hostOps0_3, hostOps0_4, hostOps0_5, hostOps0_6, List.flatten_cons, List.flatten_nil, List.append_nil,
    List.cons_append, List.nil_append]
   after_results_simp
   try rfl)

/-- The bias that the region reads joins the rows of one position and cuts every other pair. -/
theorem gate_held (r r' : Fin 256) : (V m c main_v13 : Vec Ideal S256x256 .f32) (ix2 r r') = gate r r' := by
  rw [← select_gate]
  simp only [V, hostOps0, hostOps0_1, hostOps0_2, hostOps0_3, hostOps0_4, hostOps0_5, hostOps0_6, List.flatten_cons, List.flatten_nil, List.append_nil,
    List.cons_append, List.nil_append]
  after_results_simp
  simp only [StableHlo.TRef.ofBuf, StableHlo.TRef.toBuf, StableHlo.TRef.of, cast_eq, id]
  pointwise []
  rw [word_bot]
  rfl

/-- Coefficients that agree entry by entry are the same. -/
theorem Par.eq_of {P Q : Par} (hg1 : ∀ k, P.g1 k = Q.g1 k) (hbe1 : ∀ k, P.be1 k = Q.be1 k) (hWq : ∀ k j, P.Wq k j = Q.Wq k j) (hbq : ∀ k, P.bq k = Q.bq k) (hWk : ∀ k j, P.Wk k j = Q.Wk k j) (hbk : ∀ k, P.bk k = Q.bk k) (hWv : ∀ k j, P.Wv k j = Q.Wv k j) (hbv : ∀ k, P.bv k = Q.bv k) (hWo : ∀ k j, P.Wo k j = Q.Wo k j) (hbo : ∀ k, P.bo k = Q.bo k) (hg2 : ∀ k, P.g2 k = Q.g2 k) (hbe2 : ∀ k, P.be2 k = Q.be2 k) (hW1 : ∀ k j, P.W1 k j = Q.W1 k j) (hbf1 : ∀ k, P.bf1 k = Q.bf1 k) (hW2 : ∀ k j, P.W2 k j = Q.W2 k j) (hbf2 : ∀ k, P.bf2 k = Q.bf2 k) : P = Q := by
  cases P; cases Q
  obtain rfl := funext fun k => hg1 k
  obtain rfl := funext fun k => hbe1 k
  obtain rfl := funext fun k => funext (hWq k)
  obtain rfl := funext fun k => hbq k
  obtain rfl := funext fun k => funext (hWk k)
  obtain rfl := funext fun k => hbk k
  obtain rfl := funext fun k => funext (hWv k)
  obtain rfl := funext fun k => hbv k
  obtain rfl := funext fun k => funext (hWo k)
  obtain rfl := funext fun k => hbo k
  obtain rfl := funext fun k => hg2 k
  obtain rfl := funext fun k => hbe2 k
  obtain rfl := funext fun k => funext (hW1 k)
  obtain rfl := funext fun k => hbf1 k
  obtain rfl := funext fun k => funext (hW2 k)
  obtain rfl := funext fun k => hbf2 k
  rfl

/-- Blocks that hold the coefficient arrays laid out as the region wants them hold those coefficients. -/
theorem parOf_eq {x4 x5 : Vec Ideal S1x512 .f32} {x6 : FVec Ideal S512x1536 .bf16} {x7 : Vec Ideal S1x1536 .f32}
    {x8 : Vec Ideal S512x512 .bf16} {x9 x10 x11 : Vec Ideal S1x512 .f32} {x12 : Vec Ideal S512x2048 .bf16}
    {x13 : Vec Ideal S1x2048 .f32} {x14 : Vec Ideal S2048x512 .bf16} {x15 : Vec Ideal S1x512 .f32}
    {a3 a4 : Vec Ideal S512 .f32} {a5 : Vec Ideal S512x512 .f32} {a6 : Vec Ideal S512 .f32} {a7 : Vec Ideal S512x512 .f32}
    {a8 : Vec Ideal S512 .f32} {a9 : Vec Ideal S512x512 .f32} {a10 : Vec Ideal S512 .f32} {a11 : Vec Ideal S512x512 .f32}
    {a12 a13 a14 : Vec Ideal S512 .f32} {a15 : Vec Ideal S512x2048 .f32} {a16 : Vec Ideal S2048 .f32}
    {a17 : Vec Ideal S2048x512 .f32} {a18 : Vec Ideal S512 .f32}
    (hrows : x4 = shapeCast S1x512 a3 shapeCasts_S512_S1x512 ∧ x5 = shapeCast S1x512 a4 shapeCasts_S512_S1x512
      ∧ x9 = shapeCast S1x512 a12 shapeCasts_S512_S1x512 ∧ x10 = shapeCast S1x512 a13 shapeCasts_S512_S1x512
      ∧ x11 = shapeCast S1x512 a14 shapeCasts_S512_S1x512 ∧ x13 = shapeCast S1x2048 a16 shapeCasts_S2048_S1x2048
      ∧ x15 = shapeCast S1x512 a18 shapeCasts_S512_S1x512)
    (hmats : (∀ k j, x8 (ix2 k j) = a11 (ix2 k j)) ∧ (∀ k j, x12 (ix2 k j) = a15 (ix2 k j)) ∧ (∀ k j, x14 (ix2 k j) = a17 (ix2 k j)))
    (h16 : x6 = truncf FTy.bf16 (concatenate S512x1536 1 [⟨S512x512, a5⟩, ⟨S512x512, a7⟩, ⟨S512x512, a9⟩]
        concatenates_S512x512_S512x512_S512x512_S512x1536_d1 : FVec Ideal S512x1536 .f32) bitsLt_bf16_f32)
    (h17 : x7 = shapeCast S1x1536 (concatenate S1536 0 [⟨S512, a6⟩, ⟨S512, a8⟩, ⟨S512, a10⟩]
        concatenates_S512_S512_S512_S1536_d0 : Vec Ideal S1536 .f32) shapeCasts_S1536_S1x1536) :
    parOf x4 x5 x6 x7 x8 x9 x10 x11 x12 x13 x14 x15 = parArgs a3 a4 a5 a6 a7 a8 a9 a10 a11 a12 a13 a14 a15 a16 a17 a18 := by
  obtain ⟨h14, h15, h19, h20, h21, h23, h25⟩ := hrows
  obtain ⟨h18, h22, h24⟩ := hmats
  refine Par.eq_of ?_ ?_ ?_ ?_ ?_ ?_ ?_ ?_ ?_ ?_ ?_ ?_ ?_ ?_ ?_ ?_
  · intro k; exact (congrFun h14 _).trans (one_row _ k)
  · intro k; exact (congrFun h15 _).trans (one_row _ k)
  · intro k j; exact (congrFun h16 _).trans (beside_left _ _ _ k j)
  · intro j; exact (congrFun h17 _).trans (in_line_left _ _ _ j)
  · intro k j; exact (congrFun h16 _).trans (beside_mid _ _ _ k j)
  · intro j; exact (congrFun h17 _).trans (in_line_mid _ _ _ j)
  · intro k j; exact (congrFun h16 _).trans (beside_right _ _ _ k j)
  · intro j; exact (congrFun h17 _).trans (in_line_right _ _ _ j)
  · intro k j; exact h18 k j
  · intro k; exact (congrFun h19 _).trans (one_row _ k)
  · intro k; exact (congrFun h20 _).trans (one_row _ k)
  · intro k; exact (congrFun h21 _).trans (one_row _ k)
  · intro k j; exact h22 k j
  · intro k; exact (congrFun h23 _).trans (one_row_wide _ k)
  · intro k j; exact h24 k j
  · intro k; exact (congrFun h25 _).trans (one_row _ k)

/-- The coefficients that the region's arrays hold are the program's arguments. -/
theorem par_held : parOf (V m c main_v14) (V m c main_v15) (V m c main_v16) (V m c main_v17) (V m c main_v18) (V m c main_v19) (V m c main_v20)
      (V m c main_v21) (V m c main_v22) (V m c main_v23) (V m c main_v24) (V m c main_v25)
    = parArgs (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  parOf_eq (rows_held m c) (mats_held m c) (wide_held m c) (line_held m c)

/-- The first position array at a row. -/
theorem first_held (b : Fin 4) (k : Fin 32) (s : Fin 128) : (V m c main_v0 : Vec Ideal S4x32x128x1 .f32) (ix4 b k s 0)
    = (m ((c : Thread nD τ).loc main_arg1) : Vec Ideal S4x32x128x2 .f32) (ix4 b k s 0) := by
  refine (congrFun (cols_held m c).1 _).trans ?_
  pointwise []

/-- The second position array at a row. -/
theorem second_held (b : Fin 4) (k : Fin 32) (s : Fin 128) : (V m c main_v1 : Vec Ideal S4x32x128x1 .f32) (ix4 b k s 0)
    = (m ((c : Thread nD τ).loc main_arg1) : Vec Ideal S4x32x128x2 .f32) (ix4 b k s 1) := by
  refine (congrFun (cols_held m c).2 _).trans ?_
  pointwise []

end Region

end Cert.Layer
-- ==== Proof.KernelArray.lean ====
/- What the array that the kernel returns holds: the layer at every position. -/
module

public import proofs.«01_k».proof.Proof.KernelHost
public import proofs.«01_k».proof.Proof.Gen.KernelIdeal.Value

@[expose] public section

noncomputable section

namespace Cert.Layer

open Idealize.ShloMosaic Idealize.ShloMosaic.TcCoe Cert.KernelIdeal Cert.KernelIdeal.Gen

/-- The layer over whole arrays: at batch entry `b`, row `c` of column `s`, it is the layer of column `s` of that entry. -/
def whole (P : Par) (x : Vec Ideal S4x32x128x512 .f32) (pos : Vec Ideal S4x32x128x2 .f32) : Vec Ideal S4x32x128x512 .f32 :=
  fun i => layer P (fun k => pos (ix4 (i 0) k (i 2) 0)) (fun k => pos (ix4 (i 0) k (i 2) 1)) (fun k l => x (ix4 (i 0) k (i 2) l)) (i 1) (i 3)

/-- The batch entry of a grid point. -/
def batch (t : Fin cfg0.N) : Fin 4 := ⟨(grid0.coords t 0).val, (grid0.coords t 0).isLt⟩

/-- The position that a grid point's block holds at `s`. -/
def place (t : Fin cfg0.N) (s : Fin 8) : Fin 128 :=
  ⟨(grid0.coords t 1).val * 8 + s.val, by have : (grid0.coords t 1).val < 16 := (grid0.coords t 1).isLt; omega⟩

/-- Where the blocks of the windows that move lie. -/
theorem index_moving : ∀ t : Fin cfg0.N,
    (win0_0.index t = ![(grid0.coords t 0).val, 0, (grid0.coords t 1).val, 0])
    ∧ (win0_1.index t = ![(grid0.coords t 0).val, 0, (grid0.coords t 1).val, 0])
    ∧ (win0_2.index t = ![(grid0.coords t 0).val, 0, (grid0.coords t 1).val, 0])
    ∧ (win0_16.index t = ![(grid0.coords t 0).val, 0, (grid0.coords t 1).val, 0]) :=
  (by decide +kernel : ∀ t : Fin grid0.N,
    (win0_0.index t = ![(grid0.coords t 0).val, 0, (grid0.coords t 1).val, 0])
    ∧ (win0_1.index t = ![(grid0.coords t 0).val, 0, (grid0.coords t 1).val, 0])
    ∧ (win0_2.index t = ![(grid0.coords t 0).val, 0, (grid0.coords t 1).val, 0])
    ∧ (win0_16.index t = ![(grid0.coords t 0).val, 0, (grid0.coords t 1).val, 0]))

/-- A block of the input array at an entry. -/
theorem read0 (t : Fin cfg0.N) (B : Vec Ideal S4x32x128x512 .f32) (k : Fin 32) (s : Fin 8) (l : Fin 512) :
    (((cfg0.win 0).blk t).view.read (Elt Ideal) B : Vec Ideal S1x32x8x512 .f32) (ix4 0 k s l) = B (ix4 (batch t) k (place t s) l) := by
  have hi := (index_moving t).1
  rw [View.read_apply]
  refine congrArg B (funext fun a => Fin.ext ?_)
  match a with
  | ⟨0, _⟩ => show win0_0.index t 0 * 1 + 1 * 0 = (grid0.coords t 0).val; rw [hi]; simp
  | ⟨1, _⟩ => show win0_0.index t 1 * 32 + 1 * k.val = k.val; rw [hi]; simp
  | ⟨2, _⟩ => show win0_0.index t 2 * 8 + 1 * s.val = (grid0.coords t 1).val * 8 + s.val; rw [hi]; simp
  | ⟨3, _⟩ => show win0_0.index t 3 * 512 + 1 * l.val = l.val; rw [hi]; simp

/-- A block of the output array at an entry. -/
theorem read16 (t : Fin cfg0.N) (B : Vec Ideal S4x32x128x512 .f32) (k : Fin 32) (s : Fin 8) (l : Fin 512) :
    (((cfg0.win 16).blk t).view.read (Elt Ideal) B : Vec Ideal S1x32x8x512 .f32) (ix4 0 k s l) = B (ix4 (batch t) k (place t s) l) := by
  have hi := (index_moving t).2.2.2
  rw [View.read_apply]
  refine congrArg B (funext fun a => Fin.ext ?_)
  match a with
  | ⟨0, _⟩ => show win0_16.index t 0 * 1 + 1 * 0 = (grid0.coords t 0).val; rw [hi]; simp
  | ⟨1, _⟩ => show win0_16.index t 1 * 32 + 1 * k.val = k.val; rw [hi]; simp
  | ⟨2, _⟩ => show win0_16.index t 2 * 8 + 1 * s.val = (grid0.coords t 1).val * 8 + s.val; rw [hi]; simp
  | ⟨3, _⟩ => show win0_16.index t 3 * 512 + 1 * l.val = l.val; rw [hi]; simp

/-- A block of the first position array at an entry. -/
theorem read1 (t : Fin cfg0.N) (B : Vec Ideal S4x32x128x1 .f32) (k : Fin 32) (s : Fin 8) :
    (((cfg0.win 1).blk t).view.read (Elt Ideal) B : Vec Ideal S1x32x8x1 .f32) (ix4 0 k s 0) = B (ix4 (batch t) k (place t s) 0) := by
  have hi := (index_moving t).2.1
  rw [View.read_apply]
  refine congrArg B (funext fun a => Fin.ext ?_)
  match a with
  | ⟨0, _⟩ => show win0_1.index t 0 * 1 + 1 * 0 = (grid0.coords t 0).val; rw [hi]; simp
  | ⟨1, _⟩ => show win0_1.index t 1 * 32 + 1 * k.val = k.val; rw [hi]; simp
  | ⟨2, _⟩ => show win0_1.index t 2 * 8 + 1 * s.val = (grid0.coords t 1).val * 8 + s.val; rw [hi]; simp
  | ⟨3, _⟩ => show win0_1.index t 3 * 1 + 1 * 0 = 0; rw [hi]; simp

/-- A block of the second position array at an entry. -/
theorem read2 (t : Fin cfg0.N) (B : Vec Ideal S4x32x128x1 .f32) (k : Fin 32) (s : Fin 8) :
    (((cfg0.win 2).blk t).view.read (Elt Ideal) B : Vec Ideal S1x32x8x1 .f32) (ix4 0 k s 0) = B (ix4 (batch t) k (place t s) 0) := by
  have hi := (index_moving t).2.2.1
  rw [View.read_apply]
  refine congrArg B (funext fun a => Fin.ext ?_)
  match a with
  | ⟨0, _⟩ => show win0_2.index t 0 * 1 + 1 * 0 = (grid0.coords t 0).val; rw [hi]; simp
  | ⟨1, _⟩ => show win0_2.index t 1 * 32 + 1 * k.val = k.val; rw [hi]; simp
  | ⟨2, _⟩ => show win0_2.index t 2 * 8 + 1 * s.val = (grid0.coords t 1).val * 8 + s.val; rw [hi]; simp
  | ⟨3, _⟩ => show win0_2.index t 3 * 1 + 1 * 0 = 0; rw [hi]; simp

/-- A window whose one block is its whole array reads the array. -/
theorem read_still (t : Fin cfg0.N) :
    (∀ B : Vec Ideal S256x256 .f32, ((cfg0.win 3).blk t).view.read (Elt Ideal) B = B)
    ∧ (∀ B : Vec Ideal S1x512 .f32, ((cfg0.win 4).blk t).view.read (Elt Ideal) B = B)
    ∧ (∀ B : Vec Ideal S1x512 .f32, ((cfg0.win 5).blk t).view.read (Elt Ideal) B = B)
    ∧ (∀ B : Vec Ideal S512x1536 .bf16, ((cfg0.win 6).blk t).view.read (Elt Ideal) B = B)
    ∧ (∀ B : Vec Ideal S1x1536 .f32, ((cfg0.win 7).blk t).view.read (Elt Ideal) B = B)
    ∧ (∀ B : Vec Ideal S512x512 .bf16, ((cfg0.win 8).blk t).view.read (Elt Ideal) B = B)
    ∧ (∀ B : Vec Ideal S1x512 .f32, ((cfg0.win 9).blk t).view.read (Elt Ideal) B = B)
    ∧ (∀ B : Vec Ideal S1x512 .f32, ((cfg0.win 10).blk t).view.read (Elt Ideal) B = B)
    ∧ (∀ B : Vec Ideal S1x512 .f32, ((cfg0.win 11).blk t).view.read (Elt Ideal) B = B)
    ∧ (∀ B : Vec Ideal S512x2048 .bf16, ((cfg0.win 12).blk t).view.read (Elt Ideal) B = B)
    ∧ (∀ B : Vec Ideal S1x2048 .f32, ((cfg0.win 13).blk t).view.read (Elt Ideal) B = B)
    ∧ (∀ B : Vec Ideal S2048x512 .bf16, ((cfg0.win 14).blk t).view.read (Elt Ideal) B = B)
    ∧ (∀ B : Vec Ideal S1x512 .f32, ((cfg0.win 15).blk t).view.read (Elt Ideal) B = B) :=
  ⟨fun B => Memref.read_access_unit_zero (Elt Ideal) main_v13 (funext fun a => by fin_cases a <;> rfl) _ B,
   fun B => Memref.read_access_unit_zero (Elt Ideal) main_v14 (funext fun a => by fin_cases a <;> rfl) _ B,
   fun B => Memref.read_access_unit_zero (Elt Ideal) main_v15 (funext fun a => by fin_cases a <;> rfl) _ B,
   fun B => Memref.read_access_unit_zero (Elt Ideal) main_v16 (funext fun a => by fin_cases a <;> rfl) _ B,
   fun B => Memref.read_access_unit_zero (Elt Ideal) main_v17 (funext fun a => by fin_cases a <;> rfl) _ B,
   fun B => Memref.read_access_unit_zero (Elt Ideal) main_v18 (funext fun a => by fin_cases a <;> rfl) _ B,
   fun B => Memref.read_access_unit_zero (Elt Ideal) main_v19 (funext fun a => by fin_cases a <;> rfl) _ B,
   fun B => Memref.read_access_unit_zero (Elt Ideal) main_v20 (funext fun a => by fin_cases a <;> rfl) _ B,
   fun B => Memref.read_access_unit_zero (Elt Ideal) main_v21 (funext fun a => by fin_cases a <;> rfl) _ B,
   fun B => Memref.read_access_unit_zero (Elt Ideal) main_v22 (funext fun a => by fin_cases a <;> rfl) _ B,
   fun B => Memref.read_access_unit_zero (Elt Ideal) main_v23 (funext fun a => by fin_cases a <;> rfl) _ B,
   fun B => Memref.read_access_unit_zero (Elt Ideal) main_v24 (funext fun a => by fin_cases a <;> rfl) _ B,
   fun B => Memref.read_access_unit_zero (Elt Ideal) main_v25 (funext fun a => by fin_cases a <;> rfl) _ B⟩

/-- A block of positions is real when each of its entries is. -/
theorem real_of_entries {A : Vec Ideal S1x32x8x1 .f32} (h : ∀ k s, IsReal (A (ix4 0 k s 0))) (j : S1x32x8x1.Idx) : IsReal (A j) := by
  have hj : j = ix4 (n0 := 1) (n1 := 32) (n2 := 8) (n3 := 1) 0 (j 1) (j 2) 0 := funext fun a => match a with
    | ⟨0, _⟩ => Subsingleton.elim (α := Fin 1) _ _
    | ⟨1, _⟩ => rfl
    | ⟨2, _⟩ => rfl
    | ⟨3, _⟩ => Subsingleton.elim (α := Fin 1) _ _
  rw [hj]; exact h _ _

section Array

variable (m : (ℓ : Loc nD τ sig) → Buf (Elt Ideal) ℓ) (c : Dev nD)

/-- The layer's coefficients as a memory's argument arrays hold them. -/
def parMem : Par := parArgs (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- What point `t` writes back, at an entry: the layer at that position. -/
theorem point_apply (hP : (parMem m c).Fits) (hpos : ∀ i, IsReal ((m ((c : Thread nD τ).loc main_arg1) : Vec Ideal S4x32x128x2 .f32) i))
    (t : Fin cfg0.N) (k : Fin 32) (s : Fin 8) (l : Fin 512) :
    (out0_16 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
        : Vec Ideal S1x32x8x512 .f32) (ix4 0 k s l)
      = whole (parMem m c) (m ((c : Thread nD τ).loc main_arg0)) (m ((c : Thread nD τ).loc main_arg1)) (ix4 (batch t) k (place t s) l) := by
  obtain ⟨r3, r4, r5, r6, r7, r8, r9, r10, r11, r12, r13, r14, r15⟩ := read_still t
  have e0 : ∀ k s l, (iblk m c 0 t : Vec Ideal S1x32x8x512 .f32) (ix4 0 k s l) = (m ((c : Thread nD τ).loc main_arg0) : Vec Ideal S4x32x128x512 .f32) (ix4 (batch t) k (place t s) l) :=
    fun k s l => (read0 t _ k s l).trans (congrFun (V_main_arg0 m c) _)
  have e1 : ∀ k s, (iblk m c 1 t : Vec Ideal S1x32x8x1 .f32) (ix4 0 k s 0) = (m ((c : Thread nD τ).loc main_arg1) : Vec Ideal S4x32x128x2 .f32) (ix4 (batch t) k (place t s) 0) :=
    fun k s => (read1 t _ k s).trans (first_held m c _ _ _)
  have e2 : ∀ k s, (iblk m c 2 t : Vec Ideal S1x32x8x1 .f32) (ix4 0 k s 0) = (m ((c : Thread nD τ).loc main_arg1) : Vec Ideal S4x32x128x2 .f32) (ix4 (batch t) k (place t s) 1) :=
    fun k s => (read2 t _ k s).trans (second_held m c _ _ _)
  have hpar : parOf (iblk m c 4 t) (iblk m c 5 t) (iblk m c 6 t) (iblk m c 7 t) (iblk m c 8 t) (iblk m c 9 t) (iblk m c 10 t) (iblk m c 11 t)
      (iblk m c 12 t) (iblk m c 13 t) (iblk m c 14 t) (iblk m c 15 t) = parMem m c := by
    refine Eq.trans ?_ (par_held m c)
    exact (congr (congr (congr (congr (congr (congr (congr (congr (congr (congr (congr (congrArg parOf (r4 _)) (r5 _)) (r6 _)) (r7 _)) (r8 _)) (r9 _)) (r10 _)) (r11 _)) (r12 _)) (r13 _)) (r14 _)) (r15 _))
  refine (block_apply (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (hpar ▸ hP) (real_of_entries fun k s => (e1 k s) ▸ hpos _) (real_of_entries fun k s => (e2 k s) ▸ hpos _)
      (fun r r' => (congrFun (r3 _) _).trans (gate_held m c r r')) k s l).trans ?_
  rw [hpar]
  have f1 : firstB (iblk m c 1 t) s = fun k => (m ((c : Thread nD τ).loc main_arg1) : Vec Ideal S4x32x128x2 .f32) (ix4 (batch t) k (place t s) 0) := funext fun k => e1 k s
  have f2 : secondB (iblk m c 2 t) s = fun k => (m ((c : Thread nD τ).loc main_arg1) : Vec Ideal S4x32x128x2 .f32) (ix4 (batch t) k (place t s) 1) := funext fun k => e2 k s
  have f0 : rowB (iblk m c 0 t) s = fun k l => (m ((c : Thread nD τ).loc main_arg0) : Vec Ideal S4x32x128x512 .f32) (ix4 (batch t) k (place t s) l) := funext fun k => funext fun l => e0 k s l
  rw [f0, f1, f2]
  rfl

/-- What point `t` writes back is its block of the layer over whole arrays. -/
theorem flushed_whole (hP : (parMem m c).Fits) (hpos : ∀ i, IsReal ((m ((c : Thread nD τ).loc main_arg1) : Vec Ideal S4x32x128x2 .f32) i))
    (t : Fin cfg0.N) : (dats m 0 c).flushed 16 t
      = ((cfg0.win 16).blk t).view.read (Elt Ideal) (whole (parMem m c) (m ((c : Thread nD τ).loc main_arg0)) (m ((c : Thread nD τ).loc main_arg1))) := by
  rw [Value.flushed16]
  refine funext fun (j : S1x32x8x512.Idx) => ?_
  have hj : j = ix4 (n0 := 1) (n1 := 32) (n2 := 8) (n3 := 512) 0 (j 1) (j 2) (j 3) := funext fun a => match a with
    | ⟨0, _⟩ => Subsingleton.elim (α := Fin 1) _ _
    | ⟨1, _⟩ => rfl
    | ⟨2, _⟩ => rfl
    | ⟨3, _⟩ => rfl
  rw [hj]
  exact (point_apply m c hP hpos t (j 1) (j 2) (j 3)).trans (read16 t _ (j 1) (j 2) (j 3)).symm

/-- Every batch entry and every group of eight positions is some grid point's. -/
theorem index_onto : ∀ (b : Fin 4) (g : Fin 16), ∃ t : Fin cfg0.N, win0_16.index t = ![b.val, 0, g.val, 0] :=
  (by decide +kernel : ∀ (b : Fin 4) (g : Fin 16), ∃ t : Fin grid0.N, win0_16.index t = ![b.val, 0, g.val, 0])

/-- Every entry of the returned array lies in some point's block. -/
theorem covered (i : S4x32x128x512.Idx) : ∃ t : Fin cfg0.N, (cfg0.win 16).flush t = true ∧ i ∈ ((cfg0.win 16).blk t).view.set := by
  have h0 : (i 0 : Nat) < 4 := (i 0).isLt
  have h1 : (i 1 : Nat) < 32 := (i 1).isLt
  have h2 : (i 2 : Nat) < 128 := (i 2).isLt
  have h3 : (i 3 : Nat) < 512 := (i 3).isLt
  obtain ⟨t, ht⟩ := index_onto ⟨i 0, h0⟩ ⟨(i 2 : Nat) / 8, by omega⟩
  refine ⟨t, flush0_16 t, ?_⟩
  show i ∈ ((View.whole main_v26).slice (win0_16.rect t)).set
  rw [View.set_slice_whole, Rect.mem_set_unit]
  intro a
  match a with
  | ⟨0, _⟩ => show win0_16.index t 0 * 1 ≤ (i 0 : Nat) ∧ (i 0 : Nat) < win0_16.index t 0 * 1 + 1; rw [ht]; simp
  | ⟨1, _⟩ => show win0_16.index t 1 * 32 ≤ (i 1 : Nat) ∧ (i 1 : Nat) < win0_16.index t 1 * 32 + 32; rw [ht]; simpa using h1
  | ⟨2, _⟩ => show win0_16.index t 2 * 8 ≤ (i 2 : Nat) ∧ (i 2 : Nat) < win0_16.index t 2 * 8 + 8; rw [ht]; show (i 2 : Nat) / 8 * 8 ≤ (i 2 : Nat) ∧ (i 2 : Nat) < (i 2 : Nat) / 8 * 8 + 8; omega
  | ⟨3, _⟩ => show win0_16.index t 3 * 512 ≤ (i 3 : Nat) ∧ (i 3 : Nat) < win0_16.index t 3 * 512 + 512; rw [ht]; simpa using h3

/-- The array that the kernel returns is the layer over whole arrays. -/
theorem array_whole (hP : (parMem m c).Fits) (hpos : ∀ i, IsReal ((m ((c : Thread nD τ).loc main_arg1) : Vec Ideal S4x32x128x2 .f32) i)) :
    (dats m 0 c).arrAt 16 cfg0.N
      = whole (parMem m c) (m ((c : Thread nD τ).loc main_arg0)) (m ((c : Thread nD τ).loc main_arg1)) :=
  (dats m 0 c).arrAt_eq_of_cover 16 _ (fun t _ => flushed_whole m c hP hpos t) covered

end Array

end Cert.Layer
-- ==== Proof.ReferenceRows.lean ====
/- The reference before attention, row by row: the normalised rows and their linear maps. -/
module

public import proofs.«01_k».proof.Proof.Consts
public import proofs.«01_k».proof.Proof.Gen.ReferenceIdeal.Read

@[expose] public section

noncomputable section

namespace Cert.Layer

open Idealize.ShloMosaic Cert.ReferenceIdeal Cert.ReferenceIdeal.Gen Cert.ReferenceIdeal.Read
open scoped BigOperators

/-- The input's row `n`, channel `c`: batch entry `n / 128`, position `n % 128`. -/
theorem ref_input (x0 : Vec Ideal S4x32x128x512 .f32) (n : Fin 512) (c : Fin 32) (l : Fin 512) :
    val_main_v1 x0 (ix3 n c l)
      = x0 (ix4 ⟨n.val / 128, by omega⟩ c ⟨n.val % 128, by omega⟩ l) := by
  unfold val_main_v1 val_main_v0
  pointwise []

/-- The coordinates of row `n`, channel `c`. -/
theorem ref_position (x1 : Vec Ideal S4x32x128x2 .f32) (n : Fin 512) (c : Fin 32) (e : Fin 2) :
    val_main_v3 x1 (ix3 n c e)
      = x1 (ix4 ⟨n.val / 128, by omega⟩ c ⟨n.val % 128, by omega⟩ e) := by
  unfold val_main_v3 val_main_v2
  pointwise []

/-- The mask of row `n`, channel `c`. -/
theorem ref_mask (x2 : Vec Ideal S4x32x128 .i1) (n : Fin 512) (c : Fin 32) :
    val_main_v5 (F := Ideal) x2 (ix2 n c) = x2 (ix3 ⟨n.val / 128, by omega⟩ c ⟨n.val % 128, by omega⟩) := by
  unfold val_main_v5 val_main_v4
  pointwise []

/-- The sum of a row of the input. -/
theorem ref_sum (x0 : Vec Ideal S4x32x128x512 .f32) (n : Fin 512) (c : Fin 32) :
    val_main_v6 x0 (ix2 n c) = ∑ k, val_main_v1 x0 (ix3 n c k) := by
  unfold val_main_v6 val_main_cst
  generalize val_main_v1 x0 = X
  pointwise []

/-- The mean of a row of the input. -/
theorem ref_mean (x0 : Vec Ideal S4x32x128x512 .f32) (n : Fin 512) (c : Fin 32) :
    val_main_v9 x0 (ix3 n c 0) = mean (fun k => val_main_v1 x0 (ix3 n c k)) := by
  have hs := ref_sum x0 n c
  unfold val_main_v9 val_main_v8 val_main_v7 val_main_cst_0
  revert hs
  generalize val_main_v6 x0 = s
  generalize val_main_v1 x0 = X
  intro hs
  pointwise []
  rw [hs, word_512, mean]

/-- The variance of a row of the input. -/
theorem ref_var (x0 : Vec Ideal S4x32x128x512 .f32) (n : Fin 512) (c : Fin 32) :
    val_main_v16 x0 (ix3 n c 0) = var (fun k => val_main_v1 x0 (ix3 n c k)) := by
  have hs := ref_mean x0 n c
  unfold val_main_v16 val_main_v15 val_main_v14 val_main_v13 val_main_v12 val_main_v11 val_main_v10 val_main_cst_1 val_main_cst_2
  revert hs
  generalize val_main_v9 x0 = s
  generalize val_main_v1 x0 = X
  intro hs
  pointwise []
  rw [hs, word_512, var]
  rfl

/-- The first normalisation. -/
theorem ref_norm (x0 : Vec Ideal S4x32x128x512 .f32) (x3 x4 : Vec Ideal S512 .f32) (n : Fin 512) (c : Fin 32) (k : Fin 512) :
    val_main_v29 x0 x3 x4 (ix3 n c k)
      = norm (fun k => x3 (ix1 k)) (fun k => x4 (ix1 k)) (fun k => val_main_v1 x0 (ix3 n c k)) k := by
  have hs := ref_mean x0 n c
  have hv := ref_var x0 n c
  unfold val_main_v29 val_main_v28 val_main_v27 val_main_v26 val_main_v25 val_main_v24 val_main_v23 val_main_v22 val_main_v21 val_main_v20 val_main_v19 val_main_v18 val_main_v17 val_main_cst_3
  revert hs hv
  generalize val_main_v16 x0 = v
  generalize val_main_v9 x0 = s
  generalize val_main_v1 x0 = X
  intro hs hv
  pointwise []
  rw [hs, hv, word_eps, norm]
  rfl

/-- A lane of a head, counted from the head. -/
theorem lane_eq (h : Fin 8) (d : Fin 64) (hb : h.val * 64 + d.val < 512) : (⟨h.val * 64 + d.val, hb⟩ : Fin 512) = lane h d :=
  Fin.ext (by show h.val * 64 + d.val = 64 * h.val + d.val; omega)

/-- The query map of a normalised row, by head and lane. -/
theorem ref_q (x0 : Vec Ideal S4x32x128x512 .f32) (x3 x4 : Vec Ideal S512 .f32) (x5 : Vec Ideal S512x512 .f32) (x6 : Vec Ideal S512 .f32)
    (n : Fin 512) (c : Fin 32) (h : Fin 8) (d : Fin 64) :
    val_main_v34 x0 x3 x4 x5 x6 (ix4 n c h d)
      = lin (fun k j => x5 (ix2 k j)) (fun j => x6 (ix1 j)) (norm (fun k => x3 (ix1 k)) (fun k => x4 (ix1 k)) (fun k => val_main_v1 x0 (ix3 n c k))) (lane h d) := by
  have hn := ref_norm x0 x3 x4 n c
  unfold val_main_v34 val_main_v33 val_main_v32 val_main_v31 val_main_v30
  revert hn
  generalize val_main_v29 x0 x3 x4 = s
  generalize val_main_v1 x0 = X
  intro hn
  pointwise []
  simp only [hn, lane_eq, lin]

/-- The key map of a normalised row, by head and lane. -/
theorem ref_k (x0 : Vec Ideal S4x32x128x512 .f32) (x3 x4 : Vec Ideal S512 .f32) (x7 : Vec Ideal S512x512 .f32) (x8 : Vec Ideal S512 .f32)
    (n : Fin 512) (c : Fin 32) (h : Fin 8) (d : Fin 64) :
    val_main_v39 x0 x3 x4 x7 x8 (ix4 n c h d)
      = lin (fun k j => x7 (ix2 k j)) (fun j => x8 (ix1 j)) (norm (fun k => x3 (ix1 k)) (fun k => x4 (ix1 k)) (fun k => val_main_v1 x0 (ix3 n c k))) (lane h d) := by
  have hn := ref_norm x0 x3 x4 n c
  unfold val_main_v39 val_main_v38 val_main_v37 val_main_v36 val_main_v35
  revert hn
  generalize val_main_v29 x0 x3 x4 = s
  generalize val_main_v1 x0 = X
  intro hn
  pointwise []
  simp only [hn, lane_eq, lin]

/-- The value map of a normalised row, by head and lane. -/
theorem ref_v (x0 : Vec Ideal S4x32x128x512 .f32) (x3 x4 : Vec Ideal S512 .f32) (x9 : Vec Ideal S512x512 .f32) (x10 : Vec Ideal S512 .f32)
    (n : Fin 512) (c : Fin 32) (h : Fin 8) (d : Fin 64) :
    val_main_v44 x0 x3 x4 x9 x10 (ix4 n c h d)
      = lin (fun k j => x9 (ix2 k j)) (fun j => x10 (ix1 j)) (norm (fun k => x3 (ix1 k)) (fun k => x4 (ix1 k)) (fun k => val_main_v1 x0 (ix3 n c k))) (lane h d) := by
  have hn := ref_norm x0 x3 x4 n c
  unfold val_main_v44 val_main_v43 val_main_v42 val_main_v41 val_main_v40
  revert hn
  generalize val_main_v29 x0 x3 x4 = s
  generalize val_main_v1 x0 = X
  intro hn
  pointwise []
  simp only [hn, lane_eq, lin]

end Cert.Layer

end
-- ==== Proof.ReferenceTurn.lean ====
/- The rotary embedding of the reference's query and key rows. -/
module

public import proofs.«01_k».proof.Proof.ReferenceRows
public import proofs.«01_k».proof.Proof.Gen.ReferenceIdeal.Read

@[expose] public section

noncomputable section

namespace Cert.Layer

open Idealize.ShloMosaic Cert.ReferenceIdeal Cert.ReferenceIdeal.Gen Cert.ReferenceIdeal.Read
open scoped BigOperators

/-- The word of a count below 16, read as a float, is the count. -/
theorem count_word (j : Fin 16) : FloatOps.sitofp (F := Ideal) .f32 (BitVec.ofNat 32 j.val) = ((j.val : ℝ) : EReal) := by
  have h : ∀ j : Fin 16, (BitVec.ofNat 32 j.val).toInt = (j.val : ℤ) := by decide
  exact (congrArg (fun z : ℤ => ((z : ℝ) : EReal)) (h j)).trans (by rw [Int.cast_natCast])

/-- The frequencies of stage 54. -/
theorem ref_freq_54 (j : Fin 16) : val_main_v54 (F := Ideal) (ix1 j) = freq j.val := by
  rw [← freq_eq]
  unfold val_main_v54 val_main_v53 val_main_v52 val_main_v51 val_main_v50 val_main_v49 val_main_v48 val_main_cst_4 val_main_cst_5 val_main_cst_6
  pointwise []
  rw [word_16, word_10000, count_word, ← EReal.coe_one]

/-- The frequencies of stage 85. -/
theorem ref_freq_85 (j : Fin 16) : val_main_v85 (F := Ideal) (ix1 j) = freq j.val := by
  rw [← freq_eq]
  unfold val_main_v85 val_main_v84 val_main_v83 val_main_v82 val_main_v81 val_main_v80 val_main_v79 val_main_cst_7 val_main_cst_8 val_main_cst_9
  pointwise []
  rw [word_16, word_10000, count_word, ← EReal.coe_one]

/-- The frequencies of stage 117. -/
theorem ref_freq_117 (j : Fin 16) : val_main_v117 (F := Ideal) (ix1 j) = freq j.val := by
  rw [← freq_eq]
  unfold val_main_v117 val_main_v116 val_main_v115 val_main_v114 val_main_v113 val_main_v112 val_main_v111 val_main_cst_10 val_main_cst_11 val_main_cst_12
  pointwise []
  rw [word_16, word_10000, count_word, ← EReal.coe_one]

/-- The frequencies of stage 148. -/
theorem ref_freq_148 (j : Fin 16) : val_main_v148 (F := Ideal) (ix1 j) = freq j.val := by
  rw [← freq_eq]
  unfold val_main_v148 val_main_v147 val_main_v146 val_main_v145 val_main_v144 val_main_v143 val_main_v142 val_main_cst_13 val_main_cst_14 val_main_cst_15
  pointwise []
  rw [word_16, word_10000, count_word, ← EReal.coe_one]

/-- The rotary embedding of a half of a head, written by quarters. -/
theorem turn_quarters (p0 p1 : EReal) (t : Fin 512 → EReal) (h : Fin 8) (d : Fin 64) :
    turn p0 p1 t (lane h d)
      = if h_1 : d.val < 32 then
          if h_2 : d.val < 16 then
            t (lane h d) * Ideal.cos (p0 * freq d.val) - t (lane h ⟨16 + d.val, by omega⟩) * Ideal.sin (p0 * freq d.val)
          else
            t (lane h ⟨d.val - 16, by omega⟩) * Ideal.sin (p0 * freq (d.val - 16))
              + t (lane h ⟨16 + (d.val - 16), by omega⟩) * Ideal.cos (p0 * freq (d.val - 16))
        else
          if h_2 : d.val - 32 < 16 then
            t (lane h ⟨32 + (d.val - 32), by omega⟩) * Ideal.cos (p1 * freq (d.val - 32))
              - t (lane h ⟨32 + (16 + (d.val - 32)), by omega⟩) * Ideal.sin (p1 * freq (d.val - 32))
          else
            t (lane h ⟨32 + (d.val - 32 - 16), by omega⟩) * Ideal.sin (p1 * freq (d.val - 32 - 16))
              + t (lane h ⟨32 + (16 + (d.val - 32 - 16)), by omega⟩) * Ideal.cos (p1 * freq (d.val - 32 - 16)) := by
  have hl : (lane h d).val = 64 * h.val + d.val := rfl
  have e1 : (lane h d).val % 64 = d.val := by omega
  have hd := d.isLt
  unfold turn partner angle
  rw [e1]
  by_cases h1 : d.val < 32
  · have q1 : d.val / 32 % 2 = 0 := by omega
    by_cases h2 : d.val < 16
    · have q2 : (lane h d).val % 32 < 16 := by omega
      have q3 : d.val % 16 = d.val := by omega
      rw [dif_pos h1, dif_pos h2, if_pos q1, if_pos q2, q3, zero_sub, EReal.neg_mul, ← sub_eq_add_neg]
      have q4 : (⟨((lane h d).val + 16) % 512, Nat.mod_lt _ (by norm_num)⟩ : Fin 512) = lane h ⟨16 + d.val, by omega⟩ :=
        Fin.ext (by show ((lane h d).val + 16) % 512 = 64 * h.val + (16 + d.val); omega)
      rw [q4]
    · have q2 : ¬ (lane h d).val % 32 < 16 := by omega
      have q3 : d.val % 16 = d.val - 16 := by omega
      rw [dif_pos h1, dif_neg h2, if_pos q1, if_neg q2, q3, add_comm]
      have q4 : (⟨((lane h d).val + 496) % 512, Nat.mod_lt _ (by norm_num)⟩ : Fin 512) = lane h ⟨d.val - 16, by omega⟩ :=
        Fin.ext (by show ((lane h d).val + 496) % 512 = 64 * h.val + (d.val - 16); omega)
      have q5 : lane h ⟨16 + (d.val - 16), by omega⟩ = lane h d :=
        Fin.ext (by show 64 * h.val + (16 + (d.val - 16)) = 64 * h.val + d.val; omega)
      rw [q4, q5]
  · have q1 : ¬ d.val / 32 % 2 = 0 := by omega
    by_cases h2 : d.val - 32 < 16
    · have q2 : (lane h d).val % 32 < 16 := by omega
      have q3 : d.val % 16 = d.val - 32 := by omega
      rw [dif_neg h1, dif_pos h2, if_neg q1, if_pos q2, q3, zero_sub, EReal.neg_mul, ← sub_eq_add_neg]
      have q4 : (⟨((lane h d).val + 16) % 512, Nat.mod_lt _ (by norm_num)⟩ : Fin 512) = lane h ⟨32 + (16 + (d.val - 32)), by omega⟩ :=
        Fin.ext (by show ((lane h d).val + 16) % 512 = 64 * h.val + (32 + (16 + (d.val - 32))); omega)
      have q5 : lane h ⟨32 + (d.val - 32), by omega⟩ = lane h d :=
        Fin.ext (by show 64 * h.val + (32 + (d.val - 32)) = 64 * h.val + d.val; omega)
      rw [q4, q5]
    · have q2 : ¬ (lane h d).val % 32 < 16 := by omega
      have q3 : d.val % 16 = d.val - 32 - 16 := by omega
      rw [dif_neg h1, dif_neg h2, if_neg q1, if_neg q2, q3, add_comm]
      have q4 : (⟨((lane h d).val + 496) % 512, Nat.mod_lt _ (by norm_num)⟩ : Fin 512) = lane h ⟨32 + (d.val - 32 - 16), by omega⟩ :=
        Fin.ext (by show ((lane h d).val + 496) % 512 = 64 * h.val + (32 + (d.val - 32 - 16)); omega)
      have q5 : lane h ⟨32 + (16 + (d.val - 32 - 16)), by omega⟩ = lane h d :=
        Fin.ext (by show 64 * h.val + (32 + (16 + (d.val - 32 - 16))) = 64 * h.val + d.val; omega)
      rw [q4, q5]

/-- The turned query row, by head and lane, for the row `t` that the stage before holds. -/
theorem ref_turn_query (x0 : Vec Ideal S4x32x128x512 .f32) (x1 : Vec Ideal S4x32x128x2 .f32) (x3 x4 : Vec Ideal S512 .f32)
    (x5 : Vec Ideal S512x512 .f32) (x6 : Vec Ideal S512 .f32) (n : Fin 512) (c : Fin 32) (t : Fin 512 → EReal)
    (ht : ∀ h d, val_main_v34 x0 x3 x4 x5 x6 (ix4 n c h d) = t (lane h d)) (h : Fin 8) (d : Fin 64) :
    val_main_v107 x0 x1 x3 x4 x5 x6 (ix4 n c h d)
      = turn (val_main_v3 x1 (ix3 n c 0)) (val_main_v3 x1 (ix3 n c 1)) t (lane h d) := by
  rw [turn_quarters]
  have hf := ref_freq_54
  have hg := ref_freq_85
  unfold val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v47 val_main_v46 val_main_v45
  revert ht hf hg
  generalize val_main_v34 x0 x3 x4 x5 x6 = s
  generalize val_main_v3 x1 = p
  generalize val_main_v54 (F := Ideal) = f
  generalize val_main_v85 (F := Ideal) = g
  intro ht hf hg
  pointwise []
  simp only [ht, hf, hg]

/-- The turned key row, by head and lane, for the row `t` that the stage before holds. -/
theorem ref_turn_key (x0 : Vec Ideal S4x32x128x512 .f32) (x1 : Vec Ideal S4x32x128x2 .f32) (x3 x4 : Vec Ideal S512 .f32)
    (x7 : Vec Ideal S512x512 .f32) (x8 : Vec Ideal S512 .f32) (n : Fin 512) (c : Fin 32) (t : Fin 512 → EReal)
    (ht : ∀ h d, val_main_v39 x0 x3 x4 x7 x8 (ix4 n c h d) = t (lane h d)) (h : Fin 8) (d : Fin 64) :
    val_main_v170 x0 x1 x3 x4 x7 x8 (ix4 n c h d)
      = turn (val_main_v3 x1 (ix3 n c 0)) (val_main_v3 x1 (ix3 n c 1)) t (lane h d) := by
  rw [turn_quarters]
  have hf := ref_freq_117
  have hg := ref_freq_148
  unfold val_main_v170 val_main_v169 val_main_v168 val_main_v167 val_main_v166 val_main_v165 val_main_v164 val_main_v163 val_main_v162 val_main_v161 val_main_v160 val_main_v159 val_main_v158 val_main_v157 val_main_v156 val_main_v155 val_main_v154 val_main_v153 val_main_v152 val_main_v151 val_main_v150 val_main_v149 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v110 val_main_v109 val_main_v108
  revert ht hf hg
  generalize val_main_v39 x0 x3 x4 x7 x8 = s
  generalize val_main_v3 x1 = p
  generalize val_main_v117 (F := Ideal) = f
  generalize val_main_v148 (F := Ideal) = g
  intro ht hf hg
  pointwise []
  simp only [ht, hf, hg]

end Cert.Layer

end
-- ==== Proof.ReferenceAttend.lean ====
/- The attention of the reference, by head. -/
module

public import proofs.«01_k».proof.Proof.Attend
public import proofs.«01_k».proof.Proof.ReferenceTurn
public import proofs.«01_k».proof.Proof.Gen.ReferenceIdeal.Read

@[expose] public section

noncomputable section

namespace Cert.Layer

open Idealize.ShloMosaic Cert.ReferenceIdeal Cert.ReferenceIdeal.Gen Cert.ReferenceIdeal.Read
open scoped BigOperators

/-- The logits of a pair of rows: where no channel is masked, nothing is added to them. -/
theorem ref_logit (x0 : Vec Ideal S4x32x128x512 .f32) (x1 : Vec Ideal S4x32x128x2 .f32) (x2 : Vec Ideal S4x32x128 .i1)
    (x3 x4 : Vec Ideal S512 .f32) (x5 : Vec Ideal S512x512 .f32) (x6 : Vec Ideal S512 .f32) (x7 : Vec Ideal S512x512 .f32)
    (x8 : Vec Ideal S512 .f32)
    (hm : ∀ i, x2 i = 0#1) (n : Fin 512) (Q K : Fin 32 → Fin 512 → EReal)
    (hq : ∀ c h d, val_main_v107 x0 x1 x3 x4 x5 x6 (ix4 n c h d) = Q c (lane h d))
    (hk : ∀ c h d, val_main_v170 x0 x1 x3 x4 x7 x8 (ix4 n c h d) = K c (lane h d)) (h : Fin 8) (c c' : Fin 32) :
    val_main_v178 x0 x1 x2 x3 x4 x5 x6 x7 x8 (ix4 n h c c') = logit (Q c) (K c') h := by
  have hb : ∀ c, val_main_v5 (F := Ideal) x2 (ix2 n c) = 0#1 := fun c => (ref_mask x2 n c).trans (hm _)
  unfold val_main_v178 val_main_v177 val_main_v176 val_main_v175 val_main_v174 val_main_v173 val_main_v172 val_main_v171 val_main_call0_v0 val_main_call0_v1 val_main_cst_16 val_main_cst_17 val_main_cst_18
  revert hb hq hk
  generalize val_main_v107 x0 x1 x3 x4 x5 x6 = q
  generalize val_main_v170 x0 x1 x3 x4 x7 x8 = k
  generalize val_main_v5 (F := Ideal) x2 = b
  intro hq hk hb
  simp only [id_eq]
  pointwise []
  simp only [hq, hk, hb, word_8, logit]
  exact add_zero _

/-- The greatest logit of a row. -/
theorem ref_fold (x0 : Vec Ideal S4x32x128x512 .f32) (x1 : Vec Ideal S4x32x128x2 .f32) (x2 : Vec Ideal S4x32x128 .i1)
    (x3 x4 : Vec Ideal S512 .f32) (x5 : Vec Ideal S512x512 .f32) (x6 : Vec Ideal S512 .f32) (x7 : Vec Ideal S512x512 .f32)
    (x8 : Vec Ideal S512 .f32) (n : Fin 512) (h : Fin 8) (c : Fin 32) :
    val_main_v179 x0 x1 x2 x3 x4 x5 x6 x7 x8 (ix3 n h c) = peak (fun k => val_main_v178 x0 x1 x2 x3 x4 x5 x6 x7 x8 (ix4 n h c k)) := by
  unfold val_main_v179 val_main_cst_19
  generalize val_main_v178 x0 x1 x2 x3 x4 x5 x6 x7 x8 = s
  pointwise []
  rw [peak, word_bot]

/-- The greatest logit again, after the comparison with minus infinity. -/
theorem ref_peak (x0 : Vec Ideal S4x32x128x512 .f32) (x1 : Vec Ideal S4x32x128x2 .f32) (x2 : Vec Ideal S4x32x128 .i1)
    (x3 x4 : Vec Ideal S512 .f32) (x5 : Vec Ideal S512x512 .f32) (x6 : Vec Ideal S512 .f32) (x7 : Vec Ideal S512x512 .f32)
    (x8 : Vec Ideal S512 .f32) (n : Fin 512) (h : Fin 8) (c : Fin 32) :
    val_main_v181 x0 x1 x2 x3 x4 x5 x6 x7 x8 (ix3 n h c) = peak (fun k => val_main_v178 x0 x1 x2 x3 x4 x5 x6 x7 x8 (ix4 n h c k)) := by
  rw [← ref_fold]
  rw [val_main_v181_apply, val_main_v180_apply]
  generalize val_main_v179 x0 x1 x2 x3 x4 x5 x6 x7 x8 (ix3 n h c) = s
  show max (Ideal.ofBits .f32 0xFF800000#32) s = s
  rw [word_bot]
  exact max_eq_right bot_le

/-- The exponential of a logit less the greatest. -/
theorem ref_exp (x0 : Vec Ideal S4x32x128x512 .f32) (x1 : Vec Ideal S4x32x128x2 .f32) (x2 : Vec Ideal S4x32x128 .i1)
    (x3 x4 : Vec Ideal S512 .f32) (x5 : Vec Ideal S512x512 .f32) (x6 : Vec Ideal S512 .f32) (x7 : Vec Ideal S512x512 .f32)
    (x8 : Vec Ideal S512 .f32) (n : Fin 512) (h : Fin 8) (c k : Fin 32) :
    val_main_v185 x0 x1 x2 x3 x4 x5 x6 x7 x8 (ix4 n h c k)
      = Ideal.exp (val_main_v178 x0 x1 x2 x3 x4 x5 x6 x7 x8 (ix4 n h c k) - peak (fun k => val_main_v178 x0 x1 x2 x3 x4 x5 x6 x7 x8 (ix4 n h c k))) := by
  rw [← ref_peak]
  unfold val_main_v185 val_main_v184 val_main_v183 val_main_v182
  generalize val_main_v181 x0 x1 x2 x3 x4 x5 x6 x7 x8 = s
  generalize val_main_v178 x0 x1 x2 x3 x4 x5 x6 x7 x8 = g
  pointwise []

/-- The weight of a channel. -/
theorem ref_weight (x0 : Vec Ideal S4x32x128x512 .f32) (x1 : Vec Ideal S4x32x128x2 .f32) (x2 : Vec Ideal S4x32x128 .i1)
    (x3 x4 : Vec Ideal S512 .f32) (x5 : Vec Ideal S512x512 .f32) (x6 : Vec Ideal S512 .f32) (x7 : Vec Ideal S512x512 .f32)
    (x8 : Vec Ideal S512 .f32) (n : Fin 512) (h : Fin 8) (c k : Fin 32) (lg : Fin 32 → EReal)
    (hl : ∀ k, val_main_v178 x0 x1 x2 x3 x4 x5 x6 x7 x8 (ix4 n h c k) = lg k) :
    val_main_v189 x0 x1 x2 x3 x4 x5 x6 x7 x8 (ix4 n h c k)
      = Ideal.div (Ideal.exp (lg k - peak lg)) (∑ j, Ideal.exp (lg j - peak lg)) := by
  have he := ref_exp x0 x1 x2 x3 x4 x5 x6 x7 x8 n h c
  simp only [hl] at he
  unfold val_main_v189 val_main_v188 val_main_v187 val_main_v186 val_main_cst_21
  revert he
  generalize val_main_v185 x0 x1 x2 x3 x4 x5 x6 x7 x8 = e
  clear hl
  intro he
  pointwise []
  simp only [he]

/-- The attention row, over all heads. -/
theorem ref_attend (x0 : Vec Ideal S4x32x128x512 .f32) (x1 : Vec Ideal S4x32x128x2 .f32) (x2 : Vec Ideal S4x32x128 .i1)
    (x3 x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32)
    (hm : ∀ i, x2 i = 0#1) (n : Fin 512) (Q K V : Fin 32 → Fin 512 → EReal)
    (hq : ∀ c h d, val_main_v107 x0 x1 x3 x4 x5 x6 (ix4 n c h d) = Q c (lane h d))
    (hk : ∀ c h d, val_main_v170 x0 x1 x3 x4 x7 x8 (ix4 n c h d) = K c (lane h d))
    (hv : ∀ c h d, val_main_v44 x0 x3 x4 x9 x10 (ix4 n c h d) = V c (lane h d)) (c : Fin 32) (l : Fin 512) :
    val_main_v192 x0 x1 x2 x3 x4 x5 x6 x7 x8 x9 x10 (ix3 n c l)
      = soft (fun k => logit (Q c) (K k) (headOf l)) (fun k => V k l) := by
  have hw := fun k => ref_weight x0 x1 x2 x3 x4 x5 x6 x7 x8 n (headOf l) c k _ (fun k => ref_logit x0 x1 x2 x3 x4 x5 x6 x7 x8 hm n Q K hq hk (headOf l) c k)
  have hl : lane (headOf l) ⟨l.val % 64, by omega⟩ = l :=
    Fin.ext (by show 64 * (l.val / 64) + l.val % 64 = l.val; omega)
  have hv' := fun k => hv k (headOf l) ⟨l.val % 64, by omega⟩
  rw [hl] at hv'
  unfold val_main_v192 val_main_v191 val_main_v190
  revert hw hv'
  clear hq hk hv hm
  generalize val_main_v44 x0 x3 x4 x9 x10 = v
  generalize val_main_v189 x0 x1 x2 x3 x4 x5 x6 x7 x8 = w
  intro hw hv'
  pointwise []
  unfold soft
  exact Finset.sum_congr rfl fun k _ => congr_arg₂ (· * ·) (hv' k) (hw k)

end Cert.Layer

end
-- ==== Proof.ReferenceFeed.lean ====
/- The reference after attention: the output map, the second normalisation, the feed-forward part. -/
module

public import proofs.«01_k».proof.Proof.ReferenceRows
public import proofs.«01_k».proof.Proof.Gen.ReferenceIdeal.Read

@[expose] public section

noncomputable section

namespace Cert.Layer

open Idealize.ShloMosaic Cert.ReferenceIdeal Cert.ReferenceIdeal.Gen Cert.ReferenceIdeal.Read
open scoped BigOperators

/-- A row after attention, for the attention row `a`. -/
theorem ref_mid (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32)
    (n : Fin 512) (c : Fin 32) (a : Fin 512 → EReal) (ha : ∀ l, val_main_v192 x0 x1 x2 x3 x4 x5 x6 x7 x8 x9 x10 (ix3 n c l) = a l) (l : Fin 512) :
    val_main_v197 x0 x1 x2 x3 x4 x5 x6 x7 x8 x9 x10 x11 x12 (ix3 n c l)
      = val_main_v1 x0 (ix3 n c l) + lin (fun k j => x11 (ix2 k j)) (fun j => x12 (ix1 j)) a l := by
  unfold val_main_v197 val_main_v196 val_main_v195 val_main_v194 val_main_v193
  revert ha
  generalize val_main_v192 x0 x1 x2 x3 x4 x5 x6 x7 x8 x9 x10 = s
  generalize val_main_v1 x0 = X
  intro ha
  pointwise []
  simp only [ha, lin]

/-- The sum of such a row. -/
theorem ref_sum2 (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32)
    (n : Fin 512) (c : Fin 32) :
    val_main_v198 x0 x1 x2 x3 x4 x5 x6 x7 x8 x9 x10 x11 x12 (ix2 n c) = ∑ k, val_main_v197 x0 x1 x2 x3 x4 x5 x6 x7 x8 x9 x10 x11 x12 (ix3 n c k) := by
  unfold val_main_v198 val_main_cst_22
  generalize val_main_v197 x0 x1 x2 x3 x4 x5 x6 x7 x8 x9 x10 x11 x12 = X
  pointwise []

/-- The mean of such a row. -/
theorem ref_mean2 (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32)
    (n : Fin 512) (c : Fin 32) :
    val_main_v201 x0 x1 x2 x3 x4 x5 x6 x7 x8 x9 x10 x11 x12 (ix3 n c 0) = mean (fun k => val_main_v197 x0 x1 x2 x3 x4 x5 x6 x7 x8 x9 x10 x11 x12 (ix3 n c k)) := by
  have hs := ref_sum2 x0 x1 x2 x3 x4 x5 x6 x7 x8 x9 x10 x11 x12 n c
  unfold val_main_v201 val_main_v200 val_main_v199 val_main_cst_23
  revert hs
  generalize val_main_v198 x0 x1 x2 x3 x4 x5 x6 x7 x8 x9 x10 x11 x12 = s
  generalize val_main_v197 x0 x1 x2 x3 x4 x5 x6 x7 x8 x9 x10 x11 x12 = X
  intro hs
  pointwise []
  rw [hs, word_512, mean]

/-- The variance of such a row. -/
theorem ref_var2 (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32)
    (n : Fin 512) (c : Fin 32) :
    val_main_v208 x0 x1 x2 x3 x4 x5 x6 x7 x8 x9 x10 x11 x12 (ix3 n c 0) = var (fun k => val_main_v197 x0 x1 x2 x3 x4 x5 x6 x7 x8 x9 x10 x11 x12 (ix3 n c k)) := by
  have hs := ref_mean2 x0 x1 x2 x3 x4 x5 x6 x7 x8 x9 x10 x11 x12 n c
  unfold val_main_v208 val_main_v207 val_main_v206 val_main_v205 val_main_v204 val_main_v203 val_main_v202 val_main_cst_24 val_main_cst_25
  revert hs
  generalize val_main_v201 x0 x1 x2 x3 x4 x5 x6 x7 x8 x9 x10 x11 x12 = s
  generalize val_main_v197 x0 x1 x2 x3 x4 x5 x6 x7 x8 x9 x10 x11 x12 = X
  intro hs
  pointwise []
  rw [hs, word_512, var]
  rfl

/-- The second normalisation. -/
theorem ref_norm2 (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32)
    (n : Fin 512) (c : Fin 32) (k : Fin 512) :
    val_main_v221 x0 x1 x2 x3 x4 x5 x6 x7 x8 x9 x10 x11 x12 x13 x14 (ix3 n c k)
      = norm (fun k => x13 (ix1 k)) (fun k => x14 (ix1 k)) (fun k => val_main_v197 x0 x1 x2 x3 x4 x5 x6 x7 x8 x9 x10 x11 x12 (ix3 n c k)) k := by
  have hs := ref_mean2 x0 x1 x2 x3 x4 x5 x6 x7 x8 x9 x10 x11 x12 n c
  have hv := ref_var2 x0 x1 x2 x3 x4 x5 x6 x7 x8 x9 x10 x11 x12 n c
  unfold val_main_v221 val_main_v220 val_main_v219 val_main_v218 val_main_v217 val_main_v216 val_main_v215 val_main_v214 val_main_v213 val_main_v212 val_main_v211 val_main_v210 val_main_v209 val_main_cst_26
  revert hs hv
  generalize val_main_v208 x0 x1 x2 x3 x4 x5 x6 x7 x8 x9 x10 x11 x12 = v
  generalize val_main_v201 x0 x1 x2 x3 x4 x5 x6 x7 x8 x9 x10 x11 x12 = s
  generalize val_main_v197 x0 x1 x2 x3 x4 x5 x6 x7 x8 x9 x10 x11 x12 = X
  intro hs hv
  pointwise []
  rw [hs, hv, word_eps, norm]
  rfl

/-- The inner row of the feed-forward part, before its nonlinearity. -/
theorem ref_inner (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32)
    (n : Fin 512) (c : Fin 32) (j : Fin 2048) :
    val_main_v225 x0 x1 x2 x3 x4 x5 x6 x7 x8 x9 x10 x11 x12 x13 x14 x15 x16 (ix3 n c j)
      = lin (fun k j => x15 (ix2 k j)) (fun j => x16 (ix1 j))
          (norm (fun k => x13 (ix1 k)) (fun k => x14 (ix1 k)) (fun k => val_main_v197 x0 x1 x2 x3 x4 x5 x6 x7 x8 x9 x10 x11 x12 (ix3 n c k))) j := by
  have hn := ref_norm2 x0 x1 x2 x3 x4 x5 x6 x7 x8 x9 x10 x11 x12 x13 x14 n c
  unfold val_main_v225 val_main_v224 val_main_v223 val_main_v222
  revert hn
  generalize val_main_v221 x0 x1 x2 x3 x4 x5 x6 x7 x8 x9 x10 x11 x12 x13 x14 = s
  generalize val_main_v197 x0 x1 x2 x3 x4 x5 x6 x7 x8 x9 x10 x11 x12 = X
  intro hn
  pointwise []
  simp only [hn, lin]

/-- The nonlinearity. -/
theorem ref_gelu (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32)
    (n : Fin 512) (c : Fin 32) (j : Fin 2048) :
    val_main_v238 x0 x1 x2 x3 x4 x5 x6 x7 x8 x9 x10 x11 x12 x13 x14 x15 x16 (ix3 n c j) = gelu (val_main_v225 x0 x1 x2 x3 x4 x5 x6 x7 x8 x9 x10 x11 x12 x13 x14 x15 x16 (ix3 n c j)) := by
  unfold val_main_v238 val_main_v237 val_main_v236 val_main_v235 val_main_v234 val_main_v233 val_main_v232 val_main_v231 val_main_v230 val_main_v229 val_main_v228 val_main_v227 val_main_v226 val_main_cst_27 val_main_cst_28 val_main_cst_29 val_main_cst_30
  generalize val_main_v225 x0 x1 x2 x3 x4 x5 x6 x7 x8 x9 x10 x11 x12 x13 x14 x15 x16 = s
  pointwise []
  rw [word_half, word_root, word_cubic, ← EReal.coe_one]
  rfl

/-- A row after the feed-forward part. -/
theorem ref_feed (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32) (x17 : Vec Ideal S2048x512 .f32) (x18 : Vec Ideal S512 .f32)
    (n : Fin 512) (c : Fin 32) (l : Fin 512) :
    val_main_v243 x0 x1 x2 x3 x4 x5 x6 x7 x8 x9 x10 x11 x12 x13 x14 x15 x16 x17 x18 (ix3 n c l)
      = val_main_v197 x0 x1 x2 x3 x4 x5 x6 x7 x8 x9 x10 x11 x12 (ix3 n c l) + lin (fun k j => x17 (ix2 k j)) (fun j => x18 (ix1 j))
          (fun j => gelu (lin (fun k j => x15 (ix2 k j)) (fun j => x16 (ix1 j))
            (norm (fun k => x13 (ix1 k)) (fun k => x14 (ix1 k)) (fun k => val_main_v197 x0 x1 x2 x3 x4 x5 x6 x7 x8 x9 x10 x11 x12 (ix3 n c k))) j)) l := by
  have hg := fun j => (ref_gelu x0 x1 x2 x3 x4 x5 x6 x7 x8 x9 x10 x11 x12 x13 x14 x15 x16 n c j).trans (congrArg gelu (ref_inner x0 x1 x2 x3 x4 x5 x6 x7 x8 x9 x10 x11 x12 x13 x14 x15 x16 n c j))
  unfold val_main_v243 val_main_v242 val_main_v241 val_main_v240 val_main_v239
  revert hg
  generalize val_main_v238 x0 x1 x2 x3 x4 x5 x6 x7 x8 x9 x10 x11 x12 x13 x14 x15 x16 = s
  generalize val_main_v197 x0 x1 x2 x3 x4 x5 x6 x7 x8 x9 x10 x11 x12 = X
  intro hg
  pointwise []
  simp only [hg, lin]

/-- The result: where no channel is masked, the row after the feed-forward part, moved back to its place. -/
theorem ref_result (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32) (x17 : Vec Ideal S2048x512 .f32) (x18 : Vec Ideal S512 .f32)
    (hm : ∀ i, x2 i = 0#1) (b : Fin 4) (c : Fin 32) (s : Fin 128) (l : Fin 512) :
    val_main_v247 x0 x1 x2 x3 x4 x5 x6 x7 x8 x9 x10 x11 x12 x13 x14 x15 x16 x17 x18 (ix4 b c s l)
      = val_main_v243 x0 x1 x2 x3 x4 x5 x6 x7 x8 x9 x10 x11 x12 x13 x14 x15 x16 x17 x18 (ix3 ⟨b.val * 128 + s.val, by omega⟩ c l) := by
  have hb : ∀ n c, val_main_v5 (F := Ideal) x2 (ix2 n c) = 0#1 := fun n c => (ref_mask x2 n c).trans (hm _)
  unfold val_main_v247 val_main_v246 val_main_v245 val_main_call1_v0 val_main_v244
  revert hb
  generalize val_main_v243 x0 x1 x2 x3 x4 x5 x6 x7 x8 x9 x10 x11 x12 x13 x14 x15 x16 x17 x18 = y
  generalize val_main_v1 x0 = X
  generalize val_main_v5 (F := Ideal) x2 = k
  intro hb
  pointwise []
  rw [hb]
  rfl

end Cert.Layer

end
-- ==== Proof.ReferenceLayer.lean ====
/- The array that the reference returns: the layer at every position. -/
module

public import proofs.«01_k».proof.Proof.KernelArray
public import proofs.«01_k».proof.Proof.ReferenceAttend
public import proofs.«01_k».proof.Proof.ReferenceFeed

@[expose] public section

noncomputable section

namespace Cert.Layer

open Idealize.ShloMosaic Cert.ReferenceIdeal Cert.ReferenceIdeal.Gen Cert.ReferenceIdeal.Read
open scoped BigOperators

/-- The reference's row `n`, channel `c`, after the feed-forward part is the layer of that row. -/
theorem ref_layer (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32) (x17 : Vec Ideal S2048x512 .f32) (x18 : Vec Ideal S512 .f32)
    (hm : ∀ i, x2 i = 0#1) (n : Fin 512) (c : Fin 32) (l : Fin 512) :
    val_main_v243 x0 x1 x2 x3 x4 x5 x6 x7 x8 x9 x10 x11 x12 x13 x14 x15 x16 x17 x18 (ix3 n c l)
      = layer (parArgs x3 x4 x5 x6 x7 x8 x9 x10 x11 x12 x13 x14 x15 x16 x17 x18)
          (fun k => val_main_v3 x1 (ix3 n k 0)) (fun k => val_main_v3 x1 (ix3 n k 1))
          (fun k l => val_main_v1 x0 (ix3 n k l)) c l := by
  have hq := fun c => ref_turn_query x0 x1 x3 x4 x5 x6 n c _ (ref_q x0 x3 x4 x5 x6 n c)
  have hk := fun c => ref_turn_key x0 x1 x3 x4 x7 x8 n c _ (ref_k x0 x3 x4 x7 x8 n c)
  have hv := fun c => ref_v x0 x3 x4 x9 x10 n c
  have ha := ref_attend x0 x1 x2 x3 x4 x5 x6 x7 x8 x9 x10 hm n _ _ _ hq hk hv c
  have hy := fun l => ref_mid x0 x1 x2 x3 x4 x5 x6 x7 x8 x9 x10 x11 x12 n c _ ha l
  rw [ref_feed]
  simp only [hy]
  rfl

/-- The array the reference returns, at an index given by its coordinates. -/
theorem ref_whole_apply (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32) (x17 : Vec Ideal S2048x512 .f32) (x18 : Vec Ideal S512 .f32)
    (hm : ∀ i, x2 i = 0#1) (b : Fin 4) (c : Fin 32) (s : Fin 128) (l : Fin 512) :
    val_main_v247 x0 x1 x2 x3 x4 x5 x6 x7 x8 x9 x10 x11 x12 x13 x14 x15 x16 x17 x18 (ix4 b c s l) = whole (parArgs x3 x4 x5 x6 x7 x8 x9 x10 x11 x12 x13 x14 x15 x16 x17 x18) x0 x1 (ix4 b c s l) := by
  have e1 : ∀ h, (⟨(b.val * 128 + s.val) / 128, h⟩ : Fin 4) = b := fun h => Fin.ext (by show (b.val * 128 + s.val) / 128 = b.val; omega)
  have e2 : ∀ h, (⟨(b.val * 128 + s.val) % 128, h⟩ : Fin 128) = s := fun h => Fin.ext (by show (b.val * 128 + s.val) % 128 = s.val; omega)
  rw [ref_result x0 x1 x2 x3 x4 x5 x6 x7 x8 x9 x10 x11 x12 x13 x14 x15 x16 x17 x18 hm, ref_layer x0 x1 x2 x3 x4 x5 x6 x7 x8 x9 x10 x11 x12 x13 x14 x15 x16 x17 x18 hm]
  simp only [ref_input, ref_position, e1, e2]
  rfl

/-- **What the reference returns**, where no channel is masked: the layer at every position. -/
theorem ref_whole (x0 : Vec Ideal S4x32x128x512 .f32) (x1 : Vec Ideal S4x32x128x2 .f32) (x2 : Vec Ideal S4x32x128 .i1) (x3 : Vec Ideal S512 .f32)
    (x4 : Vec Ideal S512 .f32) (x5 : Vec Ideal S512x512 .f32) (x6 : Vec Ideal S512 .f32) (x7 : Vec Ideal S512x512 .f32)
    (x8 : Vec Ideal S512 .f32) (x9 : Vec Ideal S512x512 .f32) (x10 : Vec Ideal S512 .f32) (x11 : Vec Ideal S512x512 .f32)
    (x12 : Vec Ideal S512 .f32) (x13 : Vec Ideal S512 .f32) (x14 : Vec Ideal S512 .f32) (x15 : Vec Ideal S512x2048 .f32)
    (x16 : Vec Ideal S2048 .f32) (x17 : Vec Ideal S2048x512 .f32) (x18 : Vec Ideal S512 .f32)
    (hm : ∀ i, x2 i = 0#1) :
    val_main_v247 x0 x1 x2 x3 x4 x5 x6 x7 x8 x9 x10 x11 x12 x13 x14 x15 x16 x17 x18 = whole (parArgs x3 x4 x5 x6 x7 x8 x9 x10 x11 x12 x13 x14 x15 x16 x17 x18) x0 x1 := by
  have h := ref_whole_apply x0 x1 x2 x3 x4 x5 x6 x7 x8 x9 x10 x11 x12 x13 x14 x15 x16 x17 x18 hm
  funext i
  rw [eq_ix4 (n0 := 4) (n1 := 32) (n2 := 128) (n3 := 512) i]
  exact h _ _ _ _

end Cert.Layer

end
-- ==== Proof.Equation.lean ====
/- The equation of the kernel with its reference: under the precondition both return the layer over whole arrays. -/
module

public import proofs.«01_k».proof.Defs
public import proofs.«01_k».proof.Proof.Inputs
public import proofs.«01_k».proof.Proof.ReferenceLayer
public import proofs.«01_k».proof.Proof.Gen.ReferenceIdeal.Run

@[expose] public section

noncomputable section

namespace Cert.Layer

open Idealize.ShloMosaic Idealize.ShloMosaic.TcCoe Idealize.SL.Sem

section Kernel

open Cert.KernelIdeal Cert.KernelIdeal.Gen

/-- What both programs return on a device: the layer over its arrays. -/
def answer (m : (ℓ : Loc nD τ sig) → Buf (Elt Ideal) ℓ) (c : Dev nD) : Buf (Elt Ideal) ((c : Thread nD τ).loc main_v26) :=
  whole (parMem m c) (m ((c : Thread nD τ).loc main_arg0)) (m ((c : Thread nD τ).loc main_arg1))

/-- Under the precondition the kernel's array is the layer. -/
theorem kernel_answer (m : (ℓ : Loc nD τ sig) → Buf (Elt Ideal) ℓ) (c : Dev nD) (hpre : Cert.Pre_KernelIdeal_fit m) :
    (dats m 0 c).arrAt 16 cfg0.N = answer m c := by
  obtain ⟨_, h1, h3, h4, h5, h6, h7, h8⟩ := of_fit _ _ _ _ _ _ _ _ _ _ _ _ _ _ _ _ _ _ _ (hpre c)
  exact array_whole m c ⟨fun k => h3 (ix1 k), fun k => h4 (ix1 k), fun k j => h5 (ix2 k j), fun j => h6 (ix1 j),
    fun k j => h7 (ix2 k j), fun j => h8 (ix1 j)⟩ h1

end Kernel

/-- Under the precondition, from the same arguments, the reference's array is the same layer. -/
theorem reference_answer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Cert.Pre_KernelIdeal_fit m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (e18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Read.val_main_v247 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      = answer m c := by
  obtain ⟨hm, _⟩ := of_fit _ _ _ _ _ _ _ _ _ _ _ _ _ _ _ _ _ _ _ (hpre c)
  rw [e0, e1, e2, e3, e4, e5, e6, e7, e8, e9, e10, e11, e12, e13, e14, e15, e16, e17, e18]
  exact ref_whole _ _ _ _ _ _ _ _ _ _ _ _ _ _ _ _ _ _ _ hm

/-- **The kernel and its reference agree**: under the precondition, from the same arguments, both programs end with the
    same array on every device and leave their arguments as they were. -/
theorem agree : Cert.algebraic_KernelIdeal_ReferenceIdeal_pre_fit := by
  intro m g m' g' hpre heq
  refine ⟨answer m, (θ_run _ _ _).mono (fun r h c => ?_) (Cert.KernelIdeal.Value.run_blocks m g), (θ_run _ _ _).mono (fun r h c => ?_) (Cert.ReferenceIdeal.Value.run m' g')⟩
  · exact ⟨(h c).1.trans (kernel_answer m c hpre), (h c).2⟩
  · obtain ⟨e0, e1, e2, e3, e4, e5, e6, e7, e8, e9, e10, e11, e12, e13, e14, e15, e16, e17, e18⟩ := heq c
    refine ⟨(h c).1.trans ?_, (h c).2⟩
    exact (Cert.ReferenceIdeal.Read.val_main_v247_eq (F := Ideal) (Idealize.ShloMosaic.StableHlo.launchContents m' c)).trans
      (reference_answer m m' c hpre e0 e1 e2 e3 e4 e5 e6 e7 e8 e9 e10 e11 e12 e13 e14 e15 e16 e17 e18)

end Cert.Layer

end
-- ==== Proof.lean ====
/- The certificate of `Cert.Claim`: the frames of the three programs, the named constants' statements, and the equation
   of the kernel with its reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_fit
public import proofs.«01_k».proof.Proof.Equation
public import Idealize.ShloMosaic.Adequacy
public import Idealize.ShloMosaic.Init

@[expose] public section

noncomputable section

namespace Cert.Proof

open Idealize.ShloMosaic Idealize.SL.Sem Cert.Kernel

/-- **The certificate**: the frames, the named constants, the equation. -/
theorem claim : Cert.Claim := ⟨Cert.Kernel.Gen.facts, Cert.KernelIdeal.Gen.facts, Cert.ReferenceIdeal.Gen.facts, Cert.Pre_fit.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun r h => ⟨fun c => (h c).2, sem_eq_zero_of_no_sems (by decide) r.2⟩) (Cert.ReferenceIdeal.Value.run m ρ),
  fun m ρ _ => (θ_run Cert.ReferenceIdeal.defs _ _).mono (fun r h => ⟨fun c => (h c).2, sem_eq_zero_of_no_sems (by decide) r.2⟩) (Cert.ReferenceIdeal.Value.run m ρ),
  ⟨IdealRules.named_const.statement Cert.KernelIdeal.κ "log_step" .f32 0xBF135D8E#32 (((-(Real.log 10000)) * 16⁻¹ : ℝ) : EReal) rfl,
   IdealRules.named_const.statement Cert.KernelIdeal.κ "gelu_cubic" .bf16 0x3D37#16 ((12003091 / 268435456 : ℝ) : EReal) rfl,
   IdealRules.named_const.statement Cert.KernelIdeal.κ "gelu_root" .bf16 0x3F4C#16 ((6693141 / 8388608 : ℝ) : EReal) rfl⟩,
  Cert.Layer.agree⟩

end Cert.Proof

end
